-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S2x32x64x128 : Shape := ⟨4, ![2, 32, 64, 128]⟩
abbrev S2x4x64x128 : Shape := ⟨4, ![2, 4, 64, 128]⟩
abbrev S2 : Shape := ⟨1, ![2]⟩
abbrev S3x2x128x512 : Shape := ⟨4, ![3, 2, 128, 512]⟩
abbrev S3x2 : Shape := ⟨2, ![3, 2]⟩
abbrev S1 : Shape := ⟨1, ![1]⟩
abbrev S_ : Shape := ⟨0, ![]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S1x4x64x128 : Shape := ⟨4, ![1, 4, 64, 128]⟩
abbrev S4x64x128 : Shape := ⟨3, ![4, 64, 128]⟩
abbrev S128x64 : Shape := ⟨2, ![128, 64]⟩
abbrev S1x64x128 : Shape := ⟨3, ![1, 64, 128]⟩
abbrev S64x128 : Shape := ⟨2, ![64, 128]⟩
abbrev S128 : Shape := ⟨1, ![128]⟩
abbrev S128x1 : Shape := ⟨2, ![128, 1]⟩
abbrev S1x1 : Shape := ⟨2, ![1, 1]⟩
abbrev S1x1x128x512 : Shape := ⟨4, ![1, 1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S2x32x64x128, .f32⟩
  | .hbm, ⟨6, _⟩ => ⟨S2x32x64x128, .f32⟩
  | .hbm, ⟨7, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S2x4x64x128, .f32⟩
  | .local _ .vmem, ⟨5, _⟩ => ⟨S2x4x64x128, .f32⟩
  | .local _ .vmem, ⟨6, _⟩ => ⟨S2x128x512, .bf16⟩
  | .local _ .vmem, ⟨7, _⟩ => ⟨S3x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32_0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.muli v2 c4_i32
  let c0_i32_1 : BitVec 32 := 0#32
  let c0_i32_2 : BitVec 32 := 0#32
  ![0, v3.toNat, 0, 0]
def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v11 : BitVec 32 := Scalar.xori v2 c1_i32_7
  let c1_i32_9 : BitVec 32 := 1#32
  let v12 : BitVec 32 := Scalar.muli v11 c1_i32_9
  let v13 : BitVec 32 := Scalar.addi c0_i32_10 v12
  v13.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_12 : BitVec 32 := 1#32
  let v15 : BitVec 32 := Scalar.muli v14 c1_i32_12
  let v16 : BitVec 32 := Scalar.addi c0_i32_13 v15
  v16.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v17 : BitVec 32 := Scalar.xori v2 c4_i32_14
  let c1_i32_16 : BitVec 32 := 1#32
  let v18 : BitVec 32 := Scalar.muli v17 c1_i32_16
  let v19 : BitVec 32 := Scalar.addi c0_i32_17 v18
  v19.toNat
def k0_dev4 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v191 : BitVec 32 := Scalar.xori v2 c1_i32_85
  let c1_i32_93 : BitVec 32 := 1#32
  let v192 : BitVec 32 := Scalar.muli v191 c1_i32_93
  let v193 : BitVec 32 := Scalar.addi c0_i32_94 v192
  v193.toNat
def k0_dev5 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v310 : BitVec 32 := Scalar.xori v2 c1_i32_141
  let c1_i32_149 : BitVec 32 := 1#32
  let v311 : BitVec 32 := Scalar.muli v310 c1_i32_149
  let v312 : BitVec 32 := Scalar.addi c0_i32_150 v311
  v312.toNat
def k0_dev6 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v348 : BitVec 32 := Scalar.xori v2 c3_i32_193
  let c1_i32_201 : BitVec 32 := 1#32
  let v349 : BitVec 32 := Scalar.muli v348 c1_i32_201
  let v350 : BitVec 32 := Scalar.addi c0_i32_202 v349
  v350.toNat
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_245 : BitVec 32 := 3#32
  let v386 : BitVec 32 := Scalar.xori v2 c3_i32_245
  let c1_i32_253 : BitVec 32 := 1#32
  let v387 : BitVec 32 := Scalar.muli v386 c1_i32_253
  let v388 : BitVec 32 := Scalar.addi c0_i32_254 v387
  v388.toNat
def k0_dev8 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_297 : BitVec 32 := 4#32
  let v424 : BitVec 32 := Scalar.xori v2 c4_i32_297
  let c1_i32_304 : BitVec 32 := 1#32
  let v425 : BitVec 32 := Scalar.muli v424 c1_i32_304
  let v426 : BitVec 32 := Scalar.addi c0_i32_305 v425
  v426.toNat
def k0_dev9 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_348 : BitVec 32 := 4#32
  let v462 : BitVec 32 := Scalar.xori v2 c4_i32_348
  let c1_i32_356 : BitVec 32 := 1#32
  let v463 : BitVec 32 := Scalar.muli v462 c1_i32_356
  let v464 : BitVec 32 := Scalar.addi c0_i32_357 v463
  v464.toNat
def k0_dev10 (d0 : Dev nD) : Nat :=
  let c0_i32_434_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_431_r0 : BitVec 32 := 1#32
  let v520_r0 : BitVec 32 := Scalar.xori v2 c1_i32_431_r0
  let c1_i32_433_r0 : BitVec 32 := 1#32
  let v521_r0 : BitVec 32 := Scalar.muli v520_r0 c1_i32_433_r0
  let v522_r0 : BitVec 32 := Scalar.addi c0_i32_434_r0 v521_r0
  v522_r0.toNat
def k0_dev11 (d0 : Dev nD) : Nat :=
  let c0_i32_438_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_435_r0 : BitVec 32 := 3#32
  let v523_r0 : BitVec 32 := Scalar.xori v2 c3_i32_435_r0
  let c1_i32_437_r0 : BitVec 32 := 1#32
  let v524_r0 : BitVec 32 := Scalar.muli v523_r0 c1_i32_437_r0
  let v525_r0 : BitVec 32 := Scalar.addi c0_i32_438_r0 v524_r0
  v525_r0.toNat
def k0_dev12 (d0 : Dev nD) : Nat :=
  let c0_i32_442_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_439_r0 : BitVec 32 := 4#32
  let v526_r0 : BitVec 32 := Scalar.xori v2 c4_i32_439_r0
  let c1_i32_441_r0 : BitVec 32 := 1#32
  let v527_r0 : BitVec 32 := Scalar.muli v526_r0 c1_i32_441_r0
  let v528_r0 : BitVec 32 := Scalar.addi c0_i32_442_r0 v527_r0
  v528_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S2x32x128x128, .f32⟩
  | .hbm, ⟨51, _⟩ => ⟨S_, .f32⟩
  | .hbm, ⟨52, _⟩ => ⟨S2x32x128x128, .f32⟩
  | .hbm, ⟨53, _⟩ => ⟨S2x32x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S2x32x128x128, .i1⟩
  | .hbm, ⟨58, _⟩ => ⟨S2x32x128x128, .f32⟩
  | .hbm, ⟨59, _⟩ => ⟨S2x32x128x128, .f32⟩
  | .hbm, ⟨60, _⟩ => ⟨S_, .f32⟩
  | .hbm, ⟨61, _⟩ => ⟨S2x32x128, .f32⟩
  | .hbm, ⟨62, _⟩ => ⟨S2x32x128x1, .f32⟩
  | .hbm, ⟨63, _⟩ => ⟨S2x32x128x128, .f32⟩
  | .hbm, ⟨64, _⟩ => ⟨S2x32x128x128, .f32⟩
  | .hbm, ⟨65, _⟩ => ⟨S2x32x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x32x128, .f32⟩
  | .hbm, ⟨71, _⟩ => ⟨S2x32x128x1, .f32⟩
  | .hbm, ⟨72, _⟩ => ⟨S_, .f32⟩
  | .hbm, ⟨73, _⟩ => ⟨S_, .f32⟩
  | .hbm, ⟨74, _⟩ => ⟨S2x32x128x1, .i1⟩
  | .hbm, ⟨75, _⟩ => ⟨S2x32x128x1, .f32⟩
  | .hbm, ⟨76, _⟩ => ⟨S2x32x128x1, .f32⟩
  | .hbm, ⟨77, _⟩ => ⟨S2x32x128x128, .f32⟩
  | .hbm, ⟨78, _⟩ => ⟨S2x32x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x32x128x128, .i1⟩
  | .hbm, ⟨83, _⟩ => ⟨S2x32x128x128, .f32⟩
  | .hbm, ⟨84, _⟩ => ⟨S2x32x128x128, .f32⟩
  | .hbm, ⟨85, _⟩ => ⟨S2x32x64x128, .f32⟩
  | .hbm, ⟨86, _⟩ => ⟨S2x128x32x64, .f32⟩
  | .hbm, ⟨87, _⟩ => ⟨S2x128x2048, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Slabs.lean ====
/-
  Accesses and transfers through a SLAB of a buffer, a unit-stride slice of a memref. A core that owns the slab at
  values X (`owns`) loads X through the slab's rectangle, stores a whole vector over it and owns the slab at that
  vector, and copies it to a slab of another device of the same shape up to unit axes, which then reads the same
  values in row-major order. Stated once, over any memref of this program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Memref
public import Idealize.ShloMosaic.Lib.Tactic

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's ghost state beside the exchange's; a cell's round has up to three duties. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

/-- The program logic's judgement on device c's core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {sp : Space} {s : Shape} {e : EltTy}

/-- A load through a slab's rectangle gives what the slab holds. -/
theorem load_slab {cs : CoreSpace} (c : Dev nD) {m : Memref sig .tc cs s e} {r : Rect s} (hr : ∀ a, r.stride a = 1) {hl : m.view.LoadsAt r.toLoadRect}
    {α : Type} {k : (r.shape.Idx → Elt F e) → Prog (TpuEff nD τ sig (Elt F) Λ₀ .tc) α} {Q : α → sProp 𝕄} {q : PosShare TreeShare} {X : r.shape.Idx → Elt F e} :
    (owns (c : Thread nD τ) (m.slice r hr) q X : sProp 𝕄)
      ⊢ iprop((owns (c : Thread nD τ) (m.slice r hr) q X -∗ wpc c (k X) Q) -∗ wpc c (.op (.load m r.toLoadRect hl) k) Q) := by
  unfold owns
  iintro ⟨%f, %hf, H⟩ Hk
  subst hf
  iapply (wp_load_rect 𝒱₀ (c : Thread nD τ) none Set.univ (m := m) (r := r) (f := f) (subset_refl _)) $$ H
  iintro H
  iapply Hk
  iexists f
  isplitr; · ipureintro; rfl
  iexact H

/-- A store of a whole vector over a slab leaves the slab at that vector. -/
theorem store_slab {cs : CoreSpace} (c : Dev nD) {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} {X : r.shape.Idx → Elt F e} :
    (owns (c : Thread nD τ) (m.slice r hr) fullShare X : sProp 𝕄)
      ⊢ iprop((owns (c : Thread nD τ) (m.slice r hr) fullShare w -∗ wpc c (k ⟨⟩) Q) -∗ wpc c (.op (.store m r w Finset.univ hx hm) k) Q) := by
  unfold owns
  iintro ⟨%f, %hf, H⟩ Hk
  iapply (wp_store 𝒱₀ (c : Thread nD τ) none Set.univ (m := m) (r := r) (w := w) (Mk := Finset.univ) (f := f) (hx := hx) (hm := hm)
    (by rw [View.setOn_univ])) $$ H
  iintro H
  iapply Hk
  iexists (m.access r).write (Elt F) f w Finset.univ
  isplitr; · ipureintro; exact View.read_write_univ _ _
  iexact H

/-- The values X of a slab of shape s, at the shape s' the transfer counts them at and back at the shape s'' of the slab they
    land on, in row-major order throughout. -/
def carry {s s' s'' : Shape} {α : Type} (h : s.Squeezes s') (h' : s''.Squeezes s') (X : s.Idx → α) : s''.Idx → α :=
  fun j => X (Shape.reshapeEquiv h.numel_eq ((Shape.reshapeEquiv h'.numel_eq).symm j))

/-- What a slab reads after a transfer from another slab landed on it: the source's values. -/
theorem read_landed {sp' : Space} {s₁ s₂ s' : Shape} (m₁ : Memref sig .tc sp s₁ e) (m₂ : Memref sig .tc sp' s₂ e) (h₁ : s₁.Squeezes s') (h₂ : s₂.Squeezes s')
    (f : m₁.view.ty.Contents (Elt F)) (g : m₂.view.ty.Contents (Elt F)) :
    m₂.view.read (Elt F) ((m₂.squeeze s' h₂).view.write (Elt F) g ((m₁.squeeze s' h₁).view.read (Elt F) f) Finset.univ)
      = carry h₁ h₂ (m₁.view.read (Elt F) f) := by
  funext j
  have h := congrFun (View.read_write_univ (v := (m₂.squeeze s' h₂).view) g ((m₁.squeeze s' h₁).view.read (Elt F) f))
    ((Shape.reshapeEquiv h₂.numel_eq).symm j)
  refine Eq.trans ?_ h
  show _ = m₂.view.read (Elt F) _ (Shape.reshapeEquiv h₂.numel_eq ((Shape.reshapeEquiv h₂.numel_eq).symm j))
  rw [Equiv.apply_symm_apply]

/-- The copy of a slab to another device's slab: the own send cell gets the source back with its values, the other device's
    receive cell its slab at the source's values, and the credit of the receive cell is paid off what this device owes. -/
theorem send_slab (Rd : Rounds.Schedule (GSem nD τ sig) (Fin 3) 𝕄) (c : Dev nD) {n c' : Dev nD} (hn : n = c') {sp₁ sp₂ : Space} {s₁ s₂ s' : Shape}
    {m₁ : Memref sig .tc sp₁ s₁ e} {m₂ : Memref sig .tc sp₂ s₂ e} (h₁ : s₁.Squeezes s') (h₂ : s₂.Squeezes s')
    {sS sD : DmaSem sig} (tS tD : DmaSem sig) (hS : sS = tS) (hD : sD = tD)
    {hsc : (m₂.squeeze s' h₂).view.ref.isScScratch = false}
    {hsrc : (m₁.squeeze s' h₁).view.WordExact} {hdst : (m₂.squeeze s' h₂).view.WordExact}
    {hsem : DmaTarget.Typed sp₁ (.dma sD) (.remote (Dev.tc n : Thread nD τ) (m₂.squeeze s' h₂) (.dma sS) hsc)}
    {α : Type} {k : PUnit → Prog (TpuEff nD τ sig (Elt F) Λ₀ .tc) α} {Q : α → sProp 𝕄} {X : s₁.Idx → Elt F e} {Y : s₂.Idx → Elt F e} {κ₁ κ₂ : ℕ} {d₁ d₂ : Fin 3}
    (hd₁ : d₁ ∈ Rd.duties ((c : Thread nD τ), .dma tS) 0) (hd₂ : d₂ ∈ Rd.duties ((c' : Thread nD τ), .dma tD) 0)
    (N : ℕ) (hN : (m₂.squeeze s' h₂).view.amount (.dma sD) = N)
    (hk₁ : Rd.amount ((c : Thread nD τ), .dma tS) 0 d₁ = N) (hk₂ : Rd.amount ((c' : Thread nD τ), .dma tD) 0 d₂ = N)
    {O₀ : CellTallies nD τ sig Unit} (O : CellTallies nD τ sig Unit) (hO : O₀ = O + tallyAt ((c' : Thread nD τ), .dma tD) () N) {W : Waits sig Unit}
    (hpay₁ : owns (c : Thread nD τ) m₁ fullShare X ⊢ Rd.payload ((c : Thread nD τ), .dma tS) 0 d₁)
    (hpay₂ : owns (c' : Thread nD τ) m₂ fullShare (carry h₁ h₂ X) ⊢ Rd.payload ((c' : Thread nD τ), .dma tD) 0 d₂) :
    iprop(cellInv ER Rd κ₁ ((c : Thread nD τ), .dma tS) ∗ cellInv ER Rd κ₂ ((c' : Thread nD τ), .dma tD)
        ∗ owns (c : Thread nD τ) m₁ fullShare X ∗ owns (c' : Thread nD τ) m₂ fullShare Y ∗ owes (c : Thread nD τ) O₀ W
        ∗ dutyTok ER ((c : Thread nD τ), .dma tS) 0 d₁ ∗ reached ER ((c : Thread nD τ), .dma tS) 0
        ∗ dutyTok ER ((c' : Thread nD τ), .dma tD) 0 d₂ ∗ reached ER ((c' : Thread nD τ), .dma tD) 0)
      ⊢ iprop(((cred (tallyAt ((c : Thread nD τ), .dma tS) () N) ∗ owes (c : Thread nD τ) O W) -∗ wpc c (k ⟨⟩) Q)
          -∗ wpc c (.op (.enqueueDma (m₁.squeeze s' h₁) (.remote (Dev.tc n : Thread nD τ) (m₂.squeeze s' h₂) (.dma sS) hsc) (.dma sD) hsrc hdst hsem) k) Q) := by
  subst hn hS hD
  iintro ⟨#H1, #H2, Hs, Hd, HO, Ht1, Hr1, Ht2, Hr2⟩
  unfold owns
  icases Hs with ⟨%f, %hf, Hs⟩
  icases Hd with ⟨%g, %hg, Hd⟩
  subst hf
  have e₁ : (m₁.squeeze s' h₁).view.set = m₁.view.set := View.set_reshape _ _
  have e₂ : (m₂.squeeze s' h₂).view.set = m₂.view.set := View.set_reshape _ _
  have p₂ := (owns_intro (n : Thread nD τ) m₂ fullShare ((m₂.squeeze s' h₂).view.write (Elt F) g ((m₁.squeeze s' h₁).view.read (Elt F) f) Finset.univ)).trans
    ((Entails.of_eq (by rw [read_landed m₁ m₂ h₁ h₂ f g])).trans hpay₂)
  iapply (Rounds.wp_send_pointsTo 𝒱₀ ER Rd (c : Thread nD τ) none (c' := (n : Thread nD τ)) (src := m₁.squeeze s' h₁) (dst := m₂.squeeze s' h₂) (fs := f) (fd := g)
    (q := fullShare) hd₁ hd₂ () () N hN hk₁ hk₂ O hO (W := W)
    ((Entails.of_eq (congrArg (fun S => (m₁.view.loc (c : Thread nD τ) ↦[S]{fullShare} f : sProp 𝕄)) e₁)).trans
      ((owns_intro (c : Thread nD τ) m₁ fullShare f).trans hpay₁))
    ((Entails.of_eq (congrArg (fun S => (m₂.view.loc (n : Thread nD τ) ↦[S]{fullShare} _ : sProp 𝕄)) e₂)).trans p₂))
  isplitr; · iexact H1
  isplitr; · iexact H2
  isplitl [Hs]; · rw [e₁]; iexact Hs
  isplitl [Hd]; · rw [e₂]; iexact Hd
  isplitl [HO]; · iexact HO
  isplitl [Ht1]; · iexact Ht1
  isplitl [Hr1]; · iexact Hr1
  isplitl [Ht2]; · iexact Ht2
  iexact Hr2

end Cert.KernelIdeal.Butterfly

end
-- ==== Proof.Plan.lean ====
/-
  THE EXCHANGE, written down: who waits, who signals or copies, on which semaphore, how much, and what each landing holds.

  The kernel sums partial results over eight devices in three rounds. In round r device c swaps its running sum with device
  `pr r c` (the id xor 1, then 3, then 4: an involution each time), one transfer per batch row b, and adds what it receives.

    * barrier of c: three units, one from each of the three partners before anything is sent. The partner of round r hands
      over its two landing slabs of round r, so that c may write them, and that its receive cells and exit cell are open.
    * copy cells of c (two): c's own copies of its heads' keys and values from HBM; each hands back both ends.
    * send cell (r, b) of c: c's own transfer; hands back the slab it was read from.
    * receive cell (r, b) of c: the transfer of `pr r c`; hands over c's landing slab at the partner's running sum.
    * exit cell of c: one unit from each partner, nothing in hand.

  Levels: copy and send cells 0, barrier 1, receive (r, b) 2 + 2r + b, exit 8. A device always pays in the order barrier,
  (0,0), (0,1), (1,0), …, exit, and waits on a cell only while all it still owes lies above it.
-/
module

public import proofs.«01_k».proof.Proof.Slabs

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Partners -/

/-- The bits of the device id that round r flips. -/
def flip : ℕ → ℕ | 0 => 1 | 1 => 3 | _ => 4

theorem flip_lt (r : ℕ) : flip r < 2 ^ 3 := by
  unfold flip; split <;> decide

/-- Device c's partner in round r. -/
def pr (r : ℕ) (c : Dev nD) : Dev nD := ⟨c.val ^^^ flip r, Nat.xor_lt_two_pow (n := 3) c.isLt (flip_lt r)⟩

theorem pr_pr (r : ℕ) (c : Dev nD) : pr r (pr r c) = c := Fin.ext (by show (c.val ^^^ flip r) ^^^ flip r = c.val; rw [Nat.xor_assoc, Nat.xor_self, Nat.xor_zero])

/-- Round r's swap as a permutation of the devices. -/
def swap (r : ℕ) : Dev nD ≃ Dev nD := ⟨pr r, pr r, pr_pr r, pr_pr r⟩

theorem dev1 (c : Dev nD) : (⟨k0_dev1 c, k0_dev1_lt c⟩ : Dev nD) = pr 0 c := by revert c; decide +kernel
theorem dev2 (c : Dev nD) : (⟨k0_dev2 c, k0_dev2_lt c⟩ : Dev nD) = pr 1 c := by revert c; decide +kernel
theorem dev3 (c : Dev nD) : (⟨k0_dev3 c, k0_dev3_lt c⟩ : Dev nD) = pr 2 c := by revert c; decide +kernel
theorem dev4 (c : Dev nD) : (⟨k0_dev4 c, k0_dev4_lt c⟩ : Dev nD) = pr 0 c := by revert c; decide +kernel
theorem dev5 (c : Dev nD) : (⟨k0_dev5 c, k0_dev5_lt c⟩ : Dev nD) = pr 0 c := by revert c; decide +kernel
theorem dev6 (c : Dev nD) : (⟨k0_dev6 c, k0_dev6_lt c⟩ : Dev nD) = pr 1 c := by revert c; decide +kernel
theorem dev7 (c : Dev nD) : (⟨k0_dev7 c, k0_dev7_lt c⟩ : Dev nD) = pr 1 c := by revert c; decide +kernel
theorem dev8 (c : Dev nD) : (⟨k0_dev8 c, k0_dev8_lt c⟩ : Dev nD) = pr 2 c := by revert c; decide +kernel
theorem dev9 (c : Dev nD) : (⟨k0_dev9 c, k0_dev9_lt c⟩ : Dev nD) = pr 2 c := by revert c; decide +kernel
theorem dev10 (c : Dev nD) : (⟨k0_dev10 c, k0_dev10_lt c⟩ : Dev nD) = pr 0 c := by revert c; decide +kernel
theorem dev11 (c : Dev nD) : (⟨k0_dev11 c, k0_dev11_lt c⟩ : Dev nD) = pr 1 c := by revert c; decide +kernel
theorem dev12 (c : Dev nD) : (⟨k0_dev12 c, k0_dev12_lt c⟩ : Dev nD) = pr 2 c := by revert c; decide +kernel

/-! ## Slabs -/

abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg2_0
abbrev outM : Memref sig .tc .vmem S2x128x512 .f32 := Memref.whole cc0_stg3_0
abbrev klM : Memref sig .tc .vmem S2x4x64x128 .f32 := Memref.whole cc0_scratch0
abbrev vlM : Memref sig .tc .vmem S2x4x64x128 .f32 := Memref.whole cc0_scratch1
abbrev sbM : Memref sig .tc .vmem S2x128x512 .bf16 := Memref.whole cc0_scratch3
abbrev cmM : Memref sig .tc .vmem S3x2x128x512 .bf16 := Memref.whole cc0_scratch4
abbrev ktM : Memref sig .tc .hbm S2x32x64x128 .f32 := Memref.whole main_v1
abbrev vtM : Memref sig .tc .hbm S2x32x64x128 .f32 := Memref.whole main_v2

/-- Row b of an array of two 128 × 512 blocks. -/
def rowOff : Fin 2 → Fin S2x128x512.rank → ℕ | 0 => ![0, 0, 0] | 1 => ![1, 0, 0]
theorem rowOff_inb (b : Fin 2) : ∀ a, rowOff b a + S1x128x512.size a ≤ S2x128x512.size a := by
  fin_cases b; exacts [inb_S2x128x512_S1x128x512_0_0_0, inb_S2x128x512_S1x128x512_1_0_0]
def rowR (b : Fin 2) : Rect S2x128x512 := Rect.unit (s := S2x128x512) (rowOff b) S1x128x512.size (rowOff_inb b)

/-- Row b of the copied keys or values. -/
def kvOff : Fin 2 → Fin S2x4x64x128.rank → ℕ | 0 => ![0, 0, 0, 0] | 1 => ![1, 0, 0, 0]
theorem kvOff_inb (b : Fin 2) : ∀ a, kvOff b a + S1x4x64x128.size a ≤ S2x4x64x128.size a := by
  fin_cases b; exacts [inb_S2x4x64x128_S1x4x64x128_0_0_0_0, inb_S2x4x64x128_S1x4x64x128_1_0_0_0]
def kvR (b : Fin 2) : Rect S2x4x64x128 := Rect.unit (s := S2x4x64x128) (kvOff b) S1x4x64x128.size (kvOff_inb b)

/-- The landing block of round r, row b. -/
def cmOff : Fin 3 → Fin 2 → Fin S3x2x128x512.rank → ℕ
  | 0, 0 => ![0, 0, 0, 0] | 0, 1 => ![0, 1, 0, 0] | 1, 0 => ![1, 0, 0, 0] | 1, 1 => ![1, 1, 0, 0] | 2, 0 => ![2, 0, 0, 0] | 2, 1 => ![2, 1, 0, 0]
theorem cmOff_inb (r : Fin 3) (b : Fin 2) : ∀ a, cmOff r b a + S1x1x128x512.size a ≤ S3x2x128x512.size a := by
  fin_cases r <;> fin_cases b
  exacts [inb_S3x2x128x512_S1x1x128x512_0_0_0_0, inb_S3x2x128x512_S1x1x128x512_0_1_0_0, inb_S3x2x128x512_S1x1x128x512_1_0_0_0,
    inb_S3x2x128x512_S1x1x128x512_1_1_0_0, inb_S3x2x128x512_S1x1x128x512_2_0_0_0, inb_S3x2x128x512_S1x1x128x512_2_1_0_0]
def cmR (r : Fin 3) (b : Fin 2) : Rect S3x2x128x512 := Rect.unit (s := S3x2x128x512) (cmOff r b) S1x1x128x512.size (cmOff_inb r b)

/-- The heads of device c within all thirty-two. -/
def headR (c : Dev nD) : Rect S2x32x64x128 := Rect.unit (s := S2x32x64x128) (k0_off1 c) S2x4x64x128.size (k0_off1_inb c)

abbrev outS (b : Fin 2) : Memref sig .tc .vmem S1x128x512 .f32 := outM.slice (rowR b) (fun _ => rfl)
abbrev sbS (b : Fin 2) : Memref sig .tc .vmem S1x128x512 .bf16 := sbM.slice (rowR b) (fun _ => rfl)
abbrev cmS (r : Fin 3) (b : Fin 2) : Memref sig .tc .vmem S1x1x128x512 .bf16 := cmM.slice (cmR r b) (fun _ => rfl)
abbrev ktS (c : Dev nD) : Memref sig .tc .hbm S2x4x64x128 .f32 := ktM.slice (headR c) (fun _ => rfl)
abbrev vtS (c : Dev nD) : Memref sig .tc .hbm S2x4x64x128 .f32 := vtM.slice (headR c) (fun _ => rfl)

/-! ## Contents -/

/-- What the kernel reads on each device: the activations, its columns of the query weights, its rows of the output weights,
    and all keys and values, transposed. -/
structure Ins (F : FTy → Type) where
  x : Dev nD → Vec F S2x128x512 .f32
  wq : Dev nD → Vec F S512x256 .f32
  wo : Dev nD → Vec F S256x512 .f32
  kt : Dev nD → Vec F S2x32x64x128 .f32
  vt : Dev nD → Vec F S2x32x64x128 .f32

variable (I : Ins F)

/-- The part of an array a rectangle reads. -/
abbrev part {s : Shape} {e : EltTy} (r : Rect s) (X : Vec F s e) : r.shape.Idx → Elt F e := fun j => X (r.emb j)

def kl (c : Dev nD) : Vec F S2x4x64x128 .f32 := part (headR c) (I.kt c)
def vl (c : Dev nD) : Vec F S2x4x64x128 .f32 := part (headR c) (I.vt c)
def xRow (c : Dev nD) (b : Fin 2) : Vec F S1x128x512 .f32 := part (rowR b) (I.x c)
def kRow (c : Dev nD) (b : Fin 2) : Vec F S1x4x64x128 .f32 := part (kvR b) (kl I c)
def vRow (c : Dev nD) (b : Fin 2) : Vec F S1x4x64x128 .f32 := part (kvR b) (vl I c)
def wqAll (c : Dev nD) : Vec F S512x256 .f32 := part (Rect.unit (s := S512x256) ![0, 0] S512x256.size inb_S512x256_S512x256_0_0) (I.wq c)
def woAll (c : Dev nD) : Vec F S256x512 .f32 := part (Rect.unit (s := S256x512) ![0, 0] S256x512.size inb_S256x512_S256x512_0_0) (I.wo c)

/-- The sign of sixty-four, as the kernel computes it for its block comparison. -/
def sgn : BitVec 32 := Scalar.subi (Scalar.extui (Scalar.cmpi .sgt 64#32 0#32)) (Scalar.extui (Scalar.cmpi .slt 64#32 0#32))
def cols : IVec S128x128 32 := iota .tc S128x128 32 [1] iota_S128x128_d1_w32

/-- The attention mask. -/
def msk : IVec S128x128 1 := k0_pay4 k0_pay1 cols 64#32 k0_pay2 k0_pay3 sgn

/-- Device c's own partial result on row b, as stored and as sent. -/
def own (c : Dev nD) : Fin 2 → Vec F S1x128x512 .f32
  | 0 => k0_pay17 msk (k0_pay6 (woAll I c)) (k0_pay7 (wqAll I c) (xRow I c 0)) (k0_pay8 (kRow I c 0)) (k0_pay9 (vRow I c 0))
      (k0_pay12 (k0_pay10 (vRow I c 0)) (k0_pay11 k0_pay1 cols 64#32 k0_pay2 k0_pay3 sgn (wqAll I c) (xRow I c 0) (kRow I c 0)))
      (k0_pay13 msk (k0_pay7 (wqAll I c) (xRow I c 0)) (k0_pay8 (kRow I c 0)) (k0_pay9 (vRow I c 0)))
      (k0_pay14 (k0_pay9 (vRow I c 0))) (k0_pay15 msk (k0_pay7 (wqAll I c) (xRow I c 0)) (k0_pay8 (kRow I c 0)))
  | 1 => k0_pay30 msk (k0_pay6 (woAll I c)) (k0_pay19 (k0_pay5 (wqAll I c)) (xRow I c 1)) (k0_pay20 (kRow I c 1)) (k0_pay21 (vRow I c 1))
      (k0_pay25 (k0_pay22 (vRow I c 1)) (k0_pay23 msk (k0_pay5 (wqAll I c)) (xRow I c 1) (kRow I c 1)) (k0_pay24 msk (k0_pay5 (wqAll I c)) (xRow I c 1) (kRow I c 1)))
      (k0_pay26 msk (k0_pay19 (k0_pay5 (wqAll I c)) (xRow I c 1)) (k0_pay20 (kRow I c 1)) (k0_pay21 (vRow I c 1)))
      (k0_pay27 (k0_pay21 (vRow I c 1))) (k0_pay28 msk (k0_pay19 (k0_pay5 (wqAll I c)) (xRow I c 1)) (k0_pay20 (kRow I c 1)))
def ownS (c : Dev nD) : Fin 2 → Vec F S1x128x512 .bf16
  | 0 => k0_pay18 msk (k0_pay6 (woAll I c)) (k0_pay7 (wqAll I c) (xRow I c 0)) (k0_pay8 (kRow I c 0)) (k0_pay9 (vRow I c 0))
      (k0_pay12 (k0_pay10 (vRow I c 0)) (k0_pay11 k0_pay1 cols 64#32 k0_pay2 k0_pay3 sgn (wqAll I c) (xRow I c 0) (kRow I c 0)))
      (k0_pay13 msk (k0_pay7 (wqAll I c) (xRow I c 0)) (k0_pay8 (kRow I c 0)) (k0_pay9 (vRow I c 0)))
      (k0_pay14 (k0_pay9 (vRow I c 0))) (k0_pay15 msk (k0_pay7 (wqAll I c) (xRow I c 0)) (k0_pay8 (kRow I c 0)))
  | 1 => k0_pay31 msk (k0_pay6 (woAll I c)) (k0_pay19 (k0_pay5 (wqAll I c)) (xRow I c 1)) (k0_pay20 (kRow I c 1)) (k0_pay21 (vRow I c 1))
      (k0_pay25 (k0_pay22 (vRow I c 1)) (k0_pay23 msk (k0_pay5 (wqAll I c)) (xRow I c 1) (kRow I c 1)) (k0_pay24 msk (k0_pay5 (wqAll I c)) (xRow I c 1) (kRow I c 1)))
      (k0_pay26 msk (k0_pay19 (k0_pay5 (wqAll I c)) (xRow I c 1)) (k0_pay20 (kRow I c 1)) (k0_pay21 (vRow I c 1)))
      (k0_pay27 (k0_pay21 (vRow I c 1))) (k0_pay28 msk (k0_pay19 (k0_pay5 (wqAll I c)) (xRow I c 1)) (k0_pay20 (kRow I c 1)))

/-- A sent row as it is read where it lands. -/
abbrev land (X : Vec F S1x128x512 .bf16) : Vec F S1x1x128x512 .bf16 := carry squeezes_S1x128x512_S128x512 squeezes_S1x1x128x512_S128x512 X

/-- Device c's running sum on row b before round r, as stored and as sent. -/
def run : ℕ → Dev nD → Fin 2 → Vec F S1x128x512 .f32 × Vec F S1x128x512 .bf16
  | 0, c, b => (own I c b, ownS I c b)
  | r + 1, c, b => (k0_pay33 (run r c b).1 (land (run r (pr r c) b).2), k0_pay34 (run r c b).1 (land (run r (pr r c) b).2))
def acc (r : ℕ) (c : Dev nD) (b : Fin 2) : Vec F S1x128x512 .f32 := (run I r c b).1
def snd (r : ℕ) (c : Dev nD) (b : Fin 2) : Vec F S1x128x512 .bf16 := (run I r c b).2
/-- What lands on device c in round r. -/
def inc (r : ℕ) (c : Dev nD) (b : Fin 2) : Vec F S1x1x128x512 .bf16 := land (snd I r (pr r c) b)

theorem acc_succ (r : ℕ) (c : Dev nD) (b : Fin 2) : acc I (r + 1) c b = k0_pay33 (acc I r c b) (inc I r c b) := rfl
theorem snd_succ (r : ℕ) (c : Dev nD) (b : Fin 2) : snd I (r + 1) c b = k0_pay34 (acc I r c b) (inc I r c b) := rfl

/-! ## Cells -/

abbrev barL : SemLoc sig := .reg (0 : Sem sig)
abbrev exL : SemLoc sig := .reg (1 : Sem sig)
def cpD (j : Fin 2) : DmaSem sig := ⟨4 + j.val, by have := j.isLt; show _ < 18; omega⟩
def sndD (r : Fin 3) (b : Fin 2) : DmaSem sig := ⟨6 + 2 * r.val + b.val, by have := r.isLt; have := b.isLt; show _ < 18; omega⟩
def rcvD (r : Fin 3) (b : Fin 2) : DmaSem sig := ⟨12 + 2 * r.val + b.val, by have := r.isLt; have := b.isLt; show _ < 18; omega⟩

abbrev barC (c : Dev nD) : GSem nD τ sig := ((c : Thread nD τ), barL)
abbrev exC (c : Dev nD) : GSem nD τ sig := ((c : Thread nD τ), exL)
abbrev cpC (c : Dev nD) (j : Fin 2) : GSem nD τ sig := ((c : Thread nD τ), .dma (cpD j))
abbrev sndC (c : Dev nD) (r : Fin 3) (b : Fin 2) : GSem nD τ sig := ((c : Thread nD τ), .dma (sndD r b))
abbrev rcvC (c : Dev nD) (r : Fin 3) (b : Fin 2) : GSem nD τ sig := ((c : Thread nD τ), .dma (rcvD r b))

/-- The credit of a local copy, and of a transfer between devices. -/
def Nc : ℕ := (klM : Memref sig .tc .vmem S2x4x64x128 .f32).view.dmaCredit
def Ns : ℕ := ((cmS 0 0).squeeze S128x512 squeezes_S1x1x128x512_S128x512).view.dmaCredit
theorem Nc_pos : 0 < Nc := View.dmaCredit_pos _ (by decide)
theorem Ns_pos : 0 < Ns := View.dmaCredit_pos _ (by decide)

/-! ## What each landing hands over -/

/-- A buffer's contents, whole. -/
abbrev pt (c : Dev nD) (b : Ref sig .tc) (f : b.ty.Contents (Elt F)) : sProp 𝕄 := ((c : Thread nD τ).loc b) ↦{fullShare} f

/-- Device d's two landing slabs of round r, free to be written, and that its two receive cells of the round and its exit cell
    are open. -/
def barPay (d : Dev nD) (r : Fin 3) : sProp 𝕄 :=
  iprop((∃ Y, owns (d : Thread nD τ) (cmS r 0) fullShare Y) ∗ (∃ Y, owns (d : Thread nD τ) (cmS r 1) fullShare Y)
    ∗ reached ER (rcvC d r 0) 0 ∗ reached ER (rcvC d r 1) 0 ∗ reached ER (exC d) 0)
def kPay (c : Dev nD) : sProp 𝕄 := iprop(pt c cc0_scratch0 (kl I c) ∗ (ktS c).view.loc (c : Thread nD τ) ↦[(ktS c).view.set]{fullShare} (I.kt c))
def vPay (c : Dev nD) : sProp 𝕄 := iprop(pt c cc0_scratch1 (vl I c) ∗ (vtS c).view.loc (c : Thread nD τ) ↦[(vtS c).view.set]{fullShare} (I.vt c))
def sndPay (c : Dev nD) (r : ℕ) (b : Fin 2) : sProp 𝕄 := owns (c : Thread nD τ) (sbS b) fullShare (snd I r c b)
def rcvPay (c : Dev nD) (r : Fin 3) (b : Fin 2) : sProp 𝕄 := owns (c : Thread nD τ) (cmS r b) fullShare (inc I r.val c b)

/-- Row and round of a cell's place within its six. -/
def rowOf (n : ℕ) : Fin 2 := if n % 2 = 0 then 0 else 1
def roundOf (n : ℕ) : Fin 3 := if n < 2 then 0 else if n < 4 then 1 else 2

def dmaPay (c : Dev nD) (n : ℕ) : sProp 𝕄 :=
  if n = 4 then kPay I c else if n = 5 then vPay I c else if n < 12 then sndPay I c (roundOf (n - 6)).val (rowOf (n - 6))
  else rcvPay I c (roundOf (n - 12)) (rowOf (n - 12))

def dutiesAt : SemLoc sig → Finset (Fin 3)
  | .reg _ => Finset.univ
  | .dma s => if s.val < 4 then ∅ else {0}
def amountAt : SemLoc sig → ℕ
  | .reg _ => 1
  | .dma s => if s.val < 6 then Nc else Ns
def payloadAt (c : Dev nD) (d : Fin 3) : SemLoc sig → sProp 𝕄
  | .reg s => if s.val = 0 then barPay (pr d.val c) d else iprop(emp)
  | .dma s => dmaPay I c s.val

/-- One round per cell. -/
def Rd : Rounds.Schedule (GSem nD τ sig) (Fin 3) 𝕄 where
  duties g r := if r = 0 ∧ g.1.2 = .tc then dutiesAt g.2 else ∅
  unitless _ := False
  amount g _ _ := amountAt g.2
  payload g _ d := payloadAt I g.1.1 d g.2
  amount_pos g _ _ _ := by
    show 0 < amountAt g.2
    unfold amountAt; split
    · exact Nat.one_pos
    · split; exacts [Nc_pos, Ns_pos]

instance Rd_storable (g : GSem nD τ sig) (r : ℕ) (d : Fin 3) : BI.Storable (upEmb : UEmb _ 𝕄) ((Rd I).payload g r d) := by
  show BI.Storable upEmb (payloadAt I g.1.1 d g.2)
  unfold payloadAt dmaPay barPay kPay vPay sndPay rcvPay pt
  (repeat' split) <;> infer_instance

section Sched

variable (c : Dev nD) (r : Fin 3) (b j : Fin 2) (d : Fin 3)

theorem duties_bar : (Rd I).duties (barC c) 0 = Finset.univ := rfl
theorem duties_ex : (Rd I).duties (exC c) 0 = Finset.univ := rfl
theorem duties_cp : (Rd I).duties (cpC c j) 0 = {0} := by fin_cases j <;> rfl
theorem duties_snd : (Rd I).duties (sndC c r b) 0 = {0} := by fin_cases r <;> fin_cases b <;> rfl
theorem duties_rcv : (Rd I).duties (rcvC c r b) 0 = {0} := by fin_cases r <;> fin_cases b <;> rfl
theorem duties_later (g : GSem nD τ sig) : ∀ r, 1 ≤ r → (Rd I).duties g r = ∅ :=
  fun r hr => by dsimp only [Rd]; rw [if_neg (fun h => by omega)]

theorem amount_cp : (Rd I).amount (cpC c j) 0 d = Nc := by fin_cases j <;> rfl
theorem amount_snd : (Rd I).amount (sndC c r b) 0 d = Ns := by fin_cases r <;> fin_cases b <;> rfl
theorem amount_rcv : (Rd I).amount (rcvC c r b) 0 d = Ns := by fin_cases r <;> fin_cases b <;> rfl

theorem expect_bar : (Rd I).expect (barC c) 0 = 3 := rfl
theorem expect_ex : (Rd I).expect (exC c) 0 = 3 := rfl
theorem expect_cp : (Rd I).expect (cpC c j) 0 = Nc := by
  unfold Schedule.expect Schedule.amountOf; rw [duties_cp, Finset.sum_singleton, amount_cp]
theorem expect_snd : (Rd I).expect (sndC c r b) 0 = Ns := by
  unfold Schedule.expect Schedule.amountOf; rw [duties_snd, Finset.sum_singleton, amount_snd]
theorem expect_rcv : (Rd I).expect (rcvC c r b) 0 = Ns := by
  unfold Schedule.expect Schedule.amountOf; rw [duties_rcv, Finset.sum_singleton, amount_rcv]

theorem payload_bar : (Rd I).payload (barC c) 0 d = barPay (pr d.val c) d := rfl
theorem payload_ex : (Rd I).payload (exC c) 0 d = iprop(emp) := rfl
theorem payload_k : (Rd I).payload (cpC c 0) 0 d = kPay I c := rfl
theorem payload_v : (Rd I).payload (cpC c 1) 0 d = vPay I c := rfl
theorem payload_snd : (Rd I).payload (sndC c r b) 0 d = sndPay I c r.val b := by fin_cases r <;> fin_cases b <;> rfl
theorem payload_rcv : (Rd I).payload (rcvC c r b) 0 d = rcvPay I c r b := by fin_cases r <;> fin_cases b <;> rfl

theorem rest_bar : bigSep ((Rd I).duties (barC c) 0 \ ∅) (fun d => (Rd I).payload (barC c) 0 d)
    = iprop(barPay (F := F) (pr 0 c) 0 ∗ barPay (pr 1 c) 1 ∗ barPay (pr 2 c) 2) := by
  rw [Finset.sdiff_empty, duties_bar, bigSep_univ_eq_bigSepL [0, 1, 2] (by decide) (by decide)]; rfl
theorem rest_k : bigSep ((Rd I).duties (cpC c 0) 0 \ ∅) (fun d => (Rd I).payload (cpC c 0) 0 d) = kPay I c := by
  rw [Finset.sdiff_empty, duties_cp, bigSep_singleton, payload_k]
theorem rest_v : bigSep ((Rd I).duties (cpC c 1) 0 \ ∅) (fun d => (Rd I).payload (cpC c 1) 0 d) = vPay I c := by
  rw [Finset.sdiff_empty, duties_cp, bigSep_singleton, payload_v]
theorem rest_snd : bigSep ((Rd I).duties (sndC c r b) 0 \ ∅) (fun d => (Rd I).payload (sndC c r b) 0 d) = sndPay I c r.val b := by
  rw [Finset.sdiff_empty, duties_snd, bigSep_singleton, payload_snd]
theorem rest_rcv : bigSep ((Rd I).duties (rcvC c r b) 0 \ ∅) (fun d => (Rd I).payload (rcvC c r b) 0 d) = rcvPay I c r b := by
  rw [Finset.sdiff_empty, duties_rcv, bigSep_singleton, payload_rcv]

end Sched

/-! ## What each device owes, in the order it pays, and the levels -/

/-- The payment a device makes when k + 1 remain: on which semaphore of the partner of which round, and how much. -/
def payS : ℕ → SemLoc sig
  | 11 | 10 | 9 => barL
  | 8 => .dma (rcvD 0 0) | 7 => .dma (rcvD 0 1) | 6 => .dma (rcvD 1 0) | 5 => .dma (rcvD 1 1) | 4 => .dma (rcvD 2 0) | 3 => .dma (rcvD 2 1)
  | _ => exL
def payR : ℕ → ℕ | 11 | 8 | 7 | 2 => 0 | 10 | 6 | 5 | 1 => 1 | _ => 2
def payN (k : ℕ) : ℕ := amountAt (payS k)

/-- What device c owes with k payments to go. -/
def ow (c : Dev nD) : ℕ → CellTallies nD τ sig Unit
  | 0 => 0
  | k + 1 => ow c k + tallyAt ((pr (payR k) c : Thread nD τ), payS k) () (payN k)

theorem ow_succ (c : Dev nD) (k : ℕ) : ow c (k + 1) = ow c k + tallyAt ((pr (payR k) c : Thread nD τ), payS k) () (payN k) := rfl

def L (g : GSem nD τ sig) : Finset Unit := if g.1.2 = .tc then {()} else ∅
def lvl : SemLoc sig → ℕ
  | .reg s => if s.val = 0 then 1 else 8
  | .dma s => if s.val < 12 then 0 else s.val - 10
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- What is owed with k payments to go is owed to one of their cells. -/
theorem ow_pos {c : Dev nD} {k : ℕ} {g : GSem nD τ sig} {u : Unit} (h : 0 < ow c k g u) :
    ∃ i, i < k ∧ g = ((pr (payR i) c : Thread nD τ), payS i) := by
  induction k with
  | zero => exact absurd h (Nat.lt_irrefl 0)
  | succ k ih =>
    unfold ow at h
    rw [Pi.add_apply, Finsupp.add_apply] at h
    rcases Nat.add_pos_iff_pos_or_pos.mp h with h | h
    · obtain ⟨i, hi, hg⟩ := ih h; exact ⟨i, by omega, hg⟩
    · rw [tallyAt_apply] at h
      split at h
      · next hg => exact ⟨k, by omega, hg.1⟩
      · exact absurd h (Nat.lt_irrefl 0)

/-- A wait is in order while every payment to go lies above the cell. -/
theorem mayWait (c : Dev nD) (sm : SemLoc sig) (k : ℕ) (h : ∀ i, i < k → lvl sm < lvl (payS i)) :
    (levAts L lv : sProp 𝕄) ⊢ MayWait (c : Thread nD τ) sm () (ow c k) :=
  MayOwe.of_cut (L := L) (lev := lv) (lvl sm) (fun p hp => by rw [Finset.mem_singleton.mp hp, L_tc]; exact Finset.mem_singleton_self _)
    (fun g u hg => by obtain ⟨i, -, rfl⟩ := ow_pos hg; rw [L_tc]; exact Finset.mem_singleton_self _)
    (fun p hp => by rw [Finset.mem_singleton.mp hp]; exact le_refl _)
    (fun g u hg => by obtain ⟨i, hi, rfl⟩ := ow_pos hg; exact h i hi)

end Cert.KernelIdeal.Butterfly

end
-- ==== Proof.Steps.lean ====
/-
  One lemma per kind of step of the exchange: a signal to a partner, the two waits for three units, a local copy, a transfer,
  and the waits on copy, send and receive cells. Each takes the records every device may consult and what the step needs, and
  continues with what it yields. The printed device, semaphore and amount of a step enter by equations.
-/
module

public import proofs.«01_k».proof.Proof.Plan

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, and the records of them -/

/-- The kernel's own semaphores: the exit semaphore, then the fourteen of its transfers. -/
def osem (k : Fin 15) : SemLoc sig := if h : k.val = 0 then exL else .dma ⟨3 + k.val, by have := k.isLt; show _ < 18; omega⟩

theorem osem_inj : Function.Injective osem := by decide
theorem osem_ne_bar : ∀ k : Fin 15, osem k ≠ barL := by decide

def barEmb : Dev nD ↪ GSem nD τ sig := ⟨fun c => barC c, fun _ _ h => congrArg (fun g : GSem nD τ sig => g.1.1) h⟩
def scEmb : Dev nD × Fin 15 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem mem_bar (c : Dev nD) : barC c ∈ (barCells ∪ scCells : Finset (GSem nD τ sig)) :=
  Finset.mem_union_left _ (Finset.mem_map_of_mem barEmb (Finset.mem_univ c))
theorem mem_sc (c : Dev nD) (k : Fin 15) : ((c : Thread nD τ), osem k) ∈ (barCells ∪ scCells : Finset (GSem nD τ sig)) :=
  Finset.mem_union_right _ (Finset.mem_map_of_mem scEmb (Finset.mem_univ (c, k)))
theorem mem_ex (c : Dev nD) : exC c ∈ (barCells ∪ scCells : Finset (GSem nD τ sig)) := mem_sc c 0
theorem mem_cp (c : Dev nD) (j : Fin 2) : cpC c j ∈ (barCells ∪ scCells : Finset (GSem nD τ sig)) := by
  fin_cases j; exacts [mem_sc c 1, mem_sc c 2]
theorem mem_snd (c : Dev nD) (r : Fin 3) (b : Fin 2) : sndC c r b ∈ (barCells ∪ scCells : Finset (GSem nD τ sig)) := by
  fin_cases r <;> fin_cases b
  exacts [mem_sc c 3, mem_sc c 4, mem_sc c 5, mem_sc c 6, mem_sc c 7, mem_sc c 8]
theorem mem_rcv (c : Dev nD) (r : Fin 3) (b : Fin 2) : rcvC c r b ∈ (barCells ∪ scCells : Finset (GSem nD τ sig)) := by
  fin_cases r <;> fin_cases b
  exacts [mem_sc c 9, mem_sc c 10, mem_sc c 11, mem_sc c 12, mem_sc c 13, mem_sc c 14]

variable (I : Ins F)

/-- What every device may consult: all the cells' invariants under one map of names, that round 0 of every barrier cell is
    reached, and the levels. -/
def recs (κ : GSem nD τ sig → ℕ) : sProp 𝕄 :=
  iprop((bigSep (barCells ∪ scCells) fun g => cellInv ER (Rd I) (κ g) g) ∗ (bigSep barCells fun g => reached ER g 0) ∗ levAts L lv)

instance recs_persistent (κ : GSem nD τ sig → ℕ) : BI.Persistent (recs I κ) := by unfold recs; infer_instance

theorem recs_inv (κ : GSem nD τ sig → ℕ) {g : GSem nD τ sig} (hg : g ∈ (barCells ∪ scCells : Finset (GSem nD τ sig))) :
    recs I κ ⊢ cellInv ER (Rd I) (κ g) g := by
  unfold recs; iintro ⟨H, -, -⟩
  iapply (show (bigSep (barCells ∪ scCells) fun g => (cellInv ER (Rd I) (κ g) g : sProp 𝕄)) ⊢ cellInv ER (Rd I) (κ g) g from bigSep_elim hg) $$ H
theorem recs_bar (κ : GSem nD τ sig → ℕ) (c : Dev nD) : recs I κ ⊢ reached ER (barC c) 0 := by
  unfold recs; iintro ⟨-, H, -⟩
  iapply (show (bigSep barCells fun g => (reached ER g 0 : sProp 𝕄)) ⊢ reached ER (barC c) 0 from
    bigSep_elim (Finset.mem_map_of_mem barEmb (Finset.mem_univ c))) $$ H
theorem recs_lev (κ : GSem nD τ sig → ℕ) : recs I κ ⊢ levAts L lv := by
  unfold recs; iintro ⟨-, -, H⟩; iexact H

/-- Device c owes what k payments settle, whatever it has waited for. -/
def owe (c : Dev nD) (k : ℕ) : sProp 𝕄 := iprop(∃ W, owes (c : Thread nD τ) (ow c k) W)

variable {κ : GSem nD τ sig → ℕ} {α : Type} {Q : α → sProp (MT nD τ sig Unit (Elt F) ℕ UU ℕ)} {K : PUnit → Prog (TpuEff nD τ sig (Elt F) Λ₀ .tc) α}

/-! ## Signals and the waits for them -/

/-- The signal to the partner of round r before anything is sent: it takes the two landing slabs of the round along. -/
theorem bar_signal (c : Dev nD) (r : Fin 3) (k : ℕ) (hkS : payS k = barL) (hkR : payR k = r.val) {n : Dev nD} (hn : n = pr r.val c) {sm : Sem sig} (hs : sm = 0)
    {a : ℤ} (ha : a = ((1 : ℕ) : ℤ)) :
    iprop(recs I κ ∗ owe c (k + 1) ∗ dutyTok ER (barC (pr r.val c)) 0 r
        ∗ (∃ Y, owns (c : Thread nD τ) (cmS r 0) fullShare Y) ∗ (∃ Y, owns (c : Thread nD τ) (cmS r 1) fullShare Y)
        ∗ reached ER (rcvC c r 0) 0 ∗ reached ER (rcvC c r 1) 0 ∗ reached ER (exC c) 0)
      ⊢ iprop((owe c k -∗ wpc c (K ⟨⟩) Q) -∗ wpc c (.op (.semSignal (Dev.tc n : Thread nD τ) sm a) K) Q) := by
  subst hn hs ha
  unfold owe
  iintro ⟨#HR, ⟨%W, HO⟩, Ht, Ha, Hb, Hra, Hrb, Hre⟩ Hk
  iapply (Rounds.wp_signal 𝒱₀ ER (Rd I) (c : Thread nD τ) none (dst := (pr r.val c : Thread nD τ)) (sem := 0) (r := 0) (d := r) (κ := κ (barC (pr r.val c)))
      (by rw [duties_bar]; exact Finset.mem_univ _) (k' := 1) rfl () (O₀ := ow c (k + 1)) (ow c k)
      (by rw [ow_succ, hkR, show payN k = 1 from by unfold payN; rw [hkS]; rfl, hkS])) $$ [HO Ht Ha Hb Hra Hrb Hre]
  · isplitr; · iapply (recs_inv I κ (mem_bar _)); iexact HR
    isplitl [HO]; · iexact HO
    isplitl [Ht]; · iexact Ht
    isplitl [Ha Hb Hra Hrb Hre]
    · rw [payload_bar, pr_pr]; unfold barPay
      isplitl [Ha]; · iexact Ha
      isplitl [Hb]; · iexact Hb
      isplitl [Hra]; · iexact Hra
      isplitl [Hrb] <;> iassumption
    · iapply (recs_bar I κ _); iexact HR
  iintro HO
  iapply Hk
  iexists W; iexact HO

/-- The wait for the three partners: their landing slabs come with it. -/
theorem bar_wait (c : Dev nD) (k : ℕ) (hlt : ∀ i, i < k → lvl barL < lvl (payS i)) {sm : Sem sig} (hs : sm = 0) {a : ℤ} (ha : a = ((3 : ℕ) : ℤ)) :
    iprop(recs I κ ∗ cred (tallyAt (barC c) () 3) ∗ owe c k ∗ atPos ER (barC c) 0 ∅ 0)
      ⊢ iprop(((owe c k ∗ atPos ER (barC c) (0 + 1) ∅ 0 ∗ barPay (F := F) (pr 0 c) 0 ∗ barPay (F := F) (pr 1 c) 1 ∗ barPay (F := F) (pr 2 c) 2) -∗ wpc c (K ⟨⟩) Q)
          -∗ wpc c (.op (.semWait sm a) K) Q) := by
  subst hs ha
  unfold owe
  iintro ⟨#HR, Hc, ⟨%W, HO⟩, Hat⟩ Hk
  iapply (Rounds.wp_wait_rest_token 𝒱₀ ER (Rd I) (c : Thread nD τ) none (κ := κ (barC c))
      (wpE_semWait_eq 𝒱₀ (c : Thread nD τ) none Set.univ) (Set.mem_univ _) () (O := ow c k) (W := W) (R := 0) (m := 0) (T := ∅)
      ((Nat.zero_add 3).trans (expect_bar I c).symm)) $$ [Hc HO Hat]
  · isplitr; · iapply (recs_inv I κ (mem_bar _)); iexact HR
    isplitl [Hc]; · iexact Hc
    isplitl [HO]; · iexact HO
    isplitr; · iapply (mayWait c barL k hlt); iapply (recs_lev I κ); iexact HR
    iexact Hat
  iintro ⟨HO, Hat, -, Hp⟩
  ihave Hp := (Entails.of_eq (rest_bar I c)) $$ Hp
  iapply Hk
  isplitl [HO]; · iexists _; iexact HO
  isplitl [Hat]; · iexact Hat
  iexact Hp

/-- The signal to a partner at the end. -/
theorem ex_signal (c : Dev nD) (r : Fin 3) (k : ℕ) (hkS : payS k = exL) (hkR : payR k = r.val) {n : Dev nD} (hn : n = pr r.val c) {sm : Sem sig} (hs : sm = 1)
    {a : ℤ} (ha : a = ((1 : ℕ) : ℤ)) :
    iprop(recs I κ ∗ owe c (k + 1) ∗ dutyTok ER (exC (pr r.val c)) 0 r ∗ reached ER (exC (pr r.val c)) 0)
      ⊢ iprop((owe c k -∗ wpc c (K ⟨⟩) Q) -∗ wpc c (.op (.semSignal (Dev.tc n : Thread nD τ) sm a) K) Q) := by
  subst hn hs ha
  unfold owe
  iintro ⟨#HR, ⟨%W, HO⟩, Ht, Hr⟩ Hk
  iapply (Rounds.wp_signal 𝒱₀ ER (Rd I) (c : Thread nD τ) none (dst := (pr r.val c : Thread nD τ)) (sem := 1) (r := 0) (d := r) (κ := κ (exC (pr r.val c)))
      (by rw [duties_ex]; exact Finset.mem_univ _) (k' := 1) rfl () (O₀ := ow c (k + 1)) (ow c k)
      (by rw [ow_succ, hkR, show payN k = 1 from by unfold payN; rw [hkS]; rfl, hkS])) $$ [HO Ht Hr]
  · isplitr; · iapply (recs_inv I κ (mem_ex _)); iexact HR
    isplitl [HO]; · iexact HO
    isplitl [Ht]; · iexact Ht
    isplitr; · rw [payload_ex]; iempintro
    iexact Hr
  iintro HO
  iapply Hk
  iexists W; iexact HO

theorem ex_wait (c : Dev nD) {sm : Sem sig} (hs : sm = 1) {a : ℤ} (ha : a = ((3 : ℕ) : ℤ)) :
    iprop(recs I κ ∗ cred (tallyAt (exC c) () 3) ∗ owe c 0 ∗ atPos ER (exC c) 0 ∅ 0)
      ⊢ iprop(((owe c 0 ∗ atPos ER (exC c) (0 + 1) ∅ 0) -∗ wpc c (K ⟨⟩) Q) -∗ wpc c (.op (.semWait sm a) K) Q) := by
  subst hs ha
  unfold owe
  iintro ⟨#HR, Hc, ⟨%W, HO⟩, Hat⟩ Hk
  iapply (Rounds.wp_wait_rest_token 𝒱₀ ER (Rd I) (c : Thread nD τ) none (κ := κ (exC c))
      (wpE_semWait_eq 𝒱₀ (c : Thread nD τ) none Set.univ) (Set.mem_univ _) () (O := ow c 0) (W := W) (R := 0) (m := 0) (T := ∅)
      ((Nat.zero_add 3).trans (expect_ex I c).symm)) $$ [Hc HO Hat]
  · isplitr; · iapply (recs_inv I κ (mem_ex _)); iexact HR
    isplitl [Hc]; · iexact Hc
    isplitl [HO]; · iexact HO
    isplitr; · iapply (mayWait c exL 0 fun i hi => absurd hi (Nat.not_lt_zero i)); iapply (recs_lev I κ); iexact HR
    iexact Hat
  iintro ⟨HO, Hat, -, -⟩
  iapply Hk
  isplitl [HO]; · iexists _; iexact HO
  iexact Hat

/-! ## Transfers and the waits for them -/

/-- The wait on one of the own transfer cells, all of whose one duty is still to come. -/
theorem dma_wait (c : Dev nD) (sD : DmaSem sig) (N : ℕ) (P : sProp 𝕄) (hex : (Rd I).expect ((c : Thread nD τ), .dma sD) 0 = N)
    (hmem : ((c : Thread nD τ), SemLoc.dma sD) ∈ (barCells ∪ scCells : Finset (GSem nD τ sig)))
    (hP : bigSep ((Rd I).duties ((c : Thread nD τ), .dma sD) 0 \ ∅) (fun d => (Rd I).payload ((c : Thread nD τ), .dma sD) 0 d) = P)
    (k : ℕ) (hlt : ∀ i, i < k → lvl (.dma sD) < lvl (payS i)) {sm : DmaSem sig} (hs : sm = sD)
    {sp sp' : Space} {s s' : Shape} {e e' : EltTy} {src : Memref sig .tc sp' s' e'} {dst : Memref sig .tc sp s e} {hsrc : src.view.WordExact} {hdst : dst.view.WordExact}
    (hN : dst.view.dmaCredit = N) :
    iprop(recs I κ ∗ cred (tallyAt ((c : Thread nD τ), .dma sD) () N) ∗ owe c k ∗ atPos ER ((c : Thread nD τ), .dma sD) 0 ∅ 0)
      ⊢ iprop(((owe c k ∗ atPos ER ((c : Thread nD τ), .dma sD) (0 + 1) ∅ 0 ∗ P) -∗ wpc c (K ⟨⟩) Q)
          -∗ wpc c (.op (.waitDma2 sm src dst hsrc hdst) K) Q) := by
  subst hs hN hP
  unfold owe
  iintro ⟨#HR, Hc, ⟨%W, HO⟩, Hat⟩ Hk
  iapply (Rounds.wp_wait_rest_token 𝒱₀ ER (Rd I) (c : Thread nD τ) none (κ := κ ((c : Thread nD τ), .dma sm))
      (wpE_waitDma2_eq (src := src) (dst := dst) 𝒱₀ (c : Thread nD τ) none Set.univ) (Set.mem_univ _) () (O := ow c k) (W := W) (R := 0) (m := 0) (T := ∅)
      ((Nat.zero_add _).trans hex.symm)) $$ [Hc HO Hat]
  · isplitr; · iapply (recs_inv I κ hmem); iexact HR
    isplitl [Hc]; · iexact Hc
    isplitl [HO]; · iexact HO
    isplitr; · iapply (mayWait c (.dma sm) k hlt); iapply (recs_lev I κ); iexact HR
    iexact Hat
  iintro ⟨HO, Hat, -, Hp⟩
  iapply Hk
  isplitl [HO]; · iexists _; iexact HO
  isplitl [Hat]; · iexact Hat
  iexact Hp

/-- The local copy of device c's heads from HBM, j = 0 the keys, j = 1 the values. -/
theorem cp_start (c : Dev nD) (j : Fin 2) {sm : DmaSem sig} (hs : sm = cpD j) {src : Memref sig .tc .hbm S2x4x64x128 .f32} {dst : Memref sig .tc .vmem S2x4x64x128 .f32}
    {hsrc : src.view.WordExact} {hdst : dst.view.WordExact} {hsem : DmaTarget.Typed (nD := nD) (τ := τ) (p := .tc) .hbm (.dma sm) (.here dst)}
    {fs : Buf (Elt F) (src.view.loc (c : Thread nD τ))} {fd : Buf (Elt F) (dst.view.loc (c : Thread nD τ))} (hN : dst.view.amount (.dma sm) = Nc)
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ (Rd I).payload (cpC c j) 0 0) :
    iprop(recs I κ ∗ (src.view.loc (c : Thread nD τ) ↦[src.view.set]{fullShare} fs) ∗ (dst.view.loc (c : Thread nD τ) ↦[dst.view.set]{fullShare} fd)
        ∗ dutyTok ER (cpC c j) 0 0 ∗ reached ER (cpC c j) 0)
      ⊢ iprop((cred (tallyAt (cpC c j) () Nc) -∗ wpc c (K ⟨⟩) Q) -∗ wpc c (.op (.enqueueDma src (.here dst) (.dma sm) hsrc hdst hsem) K) Q) := by
  subst hs
  iintro ⟨#HR, Hs, Hd, Ht, Hr⟩
  iapply (Rounds.wp_copy_pointsTo 𝒱₀ ER (Rd I) (c : Thread nD τ) none (src := src) (dst := dst) (sem := .dma (cpD j)) (q := fullShare) (fs := fs) (fd := fd)
    (r := 0) (d := 0) (κ := κ (cpC c j)) (by rw [duties_cp]; exact Finset.mem_singleton_self _) () Nc hN (amount_cp I c j 0) hpay)
  isplitr; · iapply (recs_inv I κ (mem_cp _ _)); iexact HR
  isplitl [Hs]; · iexact Hs
  isplitl [Hd]; · iexact Hd
  isplitl [Ht]; · iexact Ht
  iexact Hr

/-- The transfer of round r, row b, to the partner of the round. -/
theorem send (c : Dev nD) (r : Fin 3) (b : Fin 2) (k : ℕ) (hkS : payS k = .dma (rcvD r b)) (hkR : payR k = r.val) (hkN : payN k = Ns) {n : Dev nD} (hn : n = pr r.val c)
    {sS sD : DmaSem sig} (hS : sS = sndD r b) (hD : sD = rcvD r b)
    {hsc : ((cmS r b).squeeze S128x512 squeezes_S1x1x128x512_S128x512).view.ref.isScScratch = false}
    {hsrc : ((sbS b).squeeze S128x512 squeezes_S1x128x512_S128x512).view.WordExact}
    {hdst : ((cmS r b).squeeze S128x512 squeezes_S1x1x128x512_S128x512).view.WordExact}
    {hsem : DmaTarget.Typed .vmem (.dma sD) (.remote (Dev.tc n : Thread nD τ) ((cmS r b).squeeze S128x512 squeezes_S1x1x128x512_S128x512) (.dma sS) hsc)} :
    iprop(recs I κ ∗ owe c (k + 1) ∗ owns (c : Thread nD τ) (sbS b) fullShare (snd I r.val c b) ∗ (∃ Y, owns (pr r.val c : Thread nD τ) (cmS r b) fullShare Y)
        ∗ dutyTok ER (sndC c r b) 0 0 ∗ reached ER (sndC c r b) 0 ∗ dutyTok ER (rcvC (pr r.val c) r b) 0 0 ∗ reached ER (rcvC (pr r.val c) r b) 0)
      ⊢ iprop(((cred (tallyAt (sndC c r b) () Ns) ∗ owe c k) -∗ wpc c (K ⟨⟩) Q)
          -∗ wpc c (.op (.enqueueDma ((sbS b).squeeze S128x512 squeezes_S1x128x512_S128x512)
              (.remote (Dev.tc n : Thread nD τ) ((cmS r b).squeeze S128x512 squeezes_S1x1x128x512_S128x512) (.dma sS) hsc) (.dma sD) hsrc hdst hsem) K) Q) := by
  unfold owe
  iintro ⟨#HR, ⟨%W, HO⟩, Hs, ⟨%Y, Hd⟩, Ht, Hr, Ht', Hr'⟩ Hk
  iapply (send_slab (Rd I) c hn (m₁ := sbS b) (m₂ := cmS r b) squeezes_S1x128x512_S128x512 squeezes_S1x1x128x512_S128x512 (sndD r b) (rcvD r b) hS hD
      (X := snd I r.val c b) (Y := Y) (κ₁ := κ (sndC c r b)) (κ₂ := κ (rcvC (pr r.val c) r b)) (d₁ := 0) (d₂ := 0)
      (by rw [duties_snd]; exact Finset.mem_singleton_self _) (by rw [duties_rcv]; exact Finset.mem_singleton_self _) Ns rfl (amount_snd I c r b 0) (amount_rcv I (pr r.val c) r b 0)
      (O₀ := ow c (k + 1)) (ow c k) (by rw [ow_succ, hkR, hkN, hkS]) (W := W)
      (by rw [payload_snd]; exact BI.Entails.refl _)
      (by rw [payload_rcv]; unfold rcvPay inc; rw [pr_pr])) $$ [HO Hs Hd Ht Hr Ht' Hr']
  · isplitr; · iapply (recs_inv I κ (mem_snd _ _ _)); iexact HR
    isplitr; · iapply (recs_inv I κ (mem_rcv _ _ _)); iexact HR
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- The cell of a finished round is closed, and its counter is back at zero. -/
theorem close (g : GSem nD τ sig) (hg : g ∈ (barCells ∪ scCells : Finset (GSem nD τ sig))) :
    iprop(recs I κ ∗ atPos ER g (0 + 1) ∅ 0) ⊢ (|={Set.univ}=> semVal g 0 : sProp 𝕄) := by
  iintro ⟨#HR, Hat⟩
  iapply (Rounds.cell_close ER (Rd I) (Set.mem_univ (κ g)) id (duties_later I g))
  isplitr; · iapply (recs_inv I κ hg); iexact HR
  iexact Hat

end Cert.KernelIdeal.Butterfly

end
-- ==== Proof.Blocks.lean ====
/-
  Whole buffers and their blocks: the two rows of the result and of the outgoing buffer, and the six landing blocks. A buffer
  splits into its blocks and is put together from them; a whole buffer is read through a rectangle; and one device's heads of
  the keys or values are carved out of the transposed array and put back.
-/
module

public import proofs.«01_k».proof.Proof.Steps

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The blocks partition the buffers -/

theorem rowR_mem (b : Fin 2) (i : S2x128x512.Idx) : i ∈ (rowR b).set ↔ (i 0).val = b.val := by
  have h1 : (i 1).val < 128 := (i 1).isLt
  have h2 : (i 2).val < 512 := (i 2).isLt
  unfold rowR; rw [Rect.mem_set_unit]
  constructor
  · intro h; have := h 0; fin_cases b <;> simp [rowOff] at this ⊢ <;> omega
  · intro h a
    fin_cases b <;> fin_cases a <;> simp [rowOff] at h ⊢ <;> omega

theorem rowR_disj (t t' : Fin 2) (h : t ≠ t') : Disjoint (rowR t).set (rowR t').set :=
  Finset.disjoint_left.mpr fun i hi hi' => h (Fin.ext (((rowR_mem t i).mp hi).symm.trans ((rowR_mem t' i).mp hi')))
theorem rowR_cover : (Finset.univ : Finset (Fin 2)).biUnion (fun t => (rowR t).set) = Finset.univ := by
  ext i
  simp only [Finset.mem_biUnion, Finset.mem_univ, true_and, iff_true]
  exact ⟨i 0, (rowR_mem _ i).mpr rfl⟩

theorem cmR_mem (rb : Fin 3 × Fin 2) (i : S3x2x128x512.Idx) : i ∈ (cmR rb.1 rb.2).set ↔ (i 0).val = rb.1.val ∧ (i 1).val = rb.2.val := by
  have h2 : (i 2).val < 128 := (i 2).isLt
  have h3 : (i 3).val < 512 := (i 3).isLt
  obtain ⟨r, b⟩ := rb
  unfold cmR; rw [Rect.mem_set_unit]
  constructor
  · intro h; have h0 := h 0; have h1 := h 1; fin_cases r <;> fin_cases b <;> simp [cmOff] at h0 h1 ⊢ <;> omega
  · intro h a
    fin_cases r <;> fin_cases b <;> fin_cases a <;> simp [cmOff] at h ⊢ <;> omega

theorem cmR_disj (t t' : Fin 3 × Fin 2) (h : t ≠ t') : Disjoint (cmR t.1 t.2).set (cmR t'.1 t'.2).set :=
  Finset.disjoint_left.mpr fun i hi hi' => h (by
    have e := (cmR_mem t i).mp hi; have e' := (cmR_mem t' i).mp hi'
    exact Prod.ext (Fin.ext (e.1.symm.trans e'.1)) (Fin.ext (e.2.symm.trans e'.2)))
theorem cmR_cover : (Finset.univ : Finset (Fin 3 × Fin 2)).biUnion (fun t => (cmR t.1 t.2).set) = Finset.univ := by
  ext i
  simp only [Finset.mem_biUnion, Finset.mem_univ, true_and, iff_true]
  exact ⟨(i 0, i 1), (cmR_mem _ i).mpr ⟨rfl, rfl⟩⟩

/-! ## Splitting and putting together -/

theorem pair_eq (Φ : Fin 2 → sProp 𝕄) : bigSep Finset.univ Φ = iprop(Φ 0 ∗ Φ 1) := by
  rw [bigSep_univ_eq_bigSepL [0, 1] (by decide) (by decide)]; rfl
/-- One assertion per round and row. -/
abbrev six (Φ : Fin 3 → Fin 2 → sProp 𝕄) : sProp 𝕄 := iprop(Φ 0 0 ∗ Φ 0 1 ∗ Φ 1 0 ∗ Φ 1 1 ∗ Φ 2 0 ∗ Φ 2 1)
theorem six_eq (Φ : Fin 3 × Fin 2 → sProp 𝕄) : bigSep Finset.univ Φ = six fun r b => Φ (r, b) := by
  rw [bigSep_univ_eq_bigSepL [(0, 0), (0, 1), (1, 0), (1, 1), (2, 0), (2, 1)] (by decide) (by decide)]; rfl

/-- The result from its two rows. -/
def rows {e : EltTy} (Y : Fin 2 → S1x128x512.Idx → Elt F e) : S2x128x512.Idx → Elt F e := Rect.glue rowR rowR_cover Y
theorem rows_emb {e : EltTy} (Y : Fin 2 → S1x128x512.Idx → Elt F e) (b : Fin 2) (j : S1x128x512.Idx) : rows Y ((rowR b).emb j) = Y b j :=
  Rect.glue_emb rowR rowR_cover rowR_disj Y b j

/-- Row b of such an array, as a memref. -/
abbrev rowS {e : EltTy} (m : Memref sig .tc .vmem S2x128x512 e) (b : Fin 2) : Memref sig .tc .vmem S1x128x512 e := m.slice (rowR b) fun _ => rfl

theorem split_rows {e : EltTy} (c : Dev nD) (m : Memref sig .tc .vmem S2x128x512 e) (X : S2x128x512.Idx → Elt F e) :
    (owns (c : Thread nD τ) m fullShare X : sProp 𝕄)
      ⊢ iprop(owns (c : Thread nD τ) (rowS m 0) fullShare (part (rowR 0) X)
          ∗ owns (c : Thread nD τ) (rowS m 1) fullShare (part (rowR 1) X)) :=
  (owns_rects (c : Thread nD τ) m fullShare rowR (fun _ _ => rfl) rowR_disj rowR_cover X).trans (Entails.of_eq (pair_eq _))

theorem join_rows {e : EltTy} (c : Dev nD) (m : Memref sig .tc .vmem S2x128x512 e) (Y : Fin 2 → S1x128x512.Idx → Elt F e) :
    iprop(owns (c : Thread nD τ) (rowS m 0) fullShare (Y 0) ∗ owns (c : Thread nD τ) (rowS m 1) fullShare (Y 1))
      ⊢ (owns (c : Thread nD τ) m fullShare (rows Y) : sProp 𝕄) := by
  refine (Entails.of_eq ?_).trans (owns_of_rects (c : Thread nD τ) m fullShare rowR (fun _ _ => rfl) rowR_disj rowR_cover (rows Y))
  exact (pair_eq (fun b => owns (c : Thread nD τ) (rowS m b) fullShare (Y b))).symm.trans
    (congrArg (bigSep Finset.univ) (funext fun b => congrArg (owns (c : Thread nD τ) (rowS m b) fullShare)
      (funext fun j => (rows_emb Y b j).symm)))

theorem split_land (c : Dev nD) (X : S3x2x128x512.Idx → Elt F .bf16) :
    (owns (c : Thread nD τ) cmM fullShare X : sProp 𝕄) ⊢ six fun r b => iprop(∃ Y, owns (c : Thread nD τ) (cmS r b) fullShare Y) := by
  refine (owns_rects (c : Thread nD τ) cmM fullShare (fun t : Fin 3 × Fin 2 => cmR t.1 t.2) (fun _ _ => rfl) cmR_disj cmR_cover X).trans ?_
  rw [six_eq]
  iintro ⟨H1, H2, H3, H4, H5, H6⟩
  isplitl [H1]; · iexists _; iexact H1
  isplitl [H2]; · iexists _; iexact H2
  isplitl [H3]; · iexists _; iexact H3
  isplitl [H4]; · iexists _; iexact H4
  isplitl [H5]; · iexists _; iexact H5
  iexists _; iexact H6

theorem join_land (c : Dev nD) (Y : Fin 3 → Fin 2 → S1x1x128x512.Idx → Elt F .bf16) :
    (six fun r b => owns (c : Thread nD τ) (cmS r b) fullShare (Y r b)) ⊢ (iprop(∃ f, pt c cc0_scratch4 f) : sProp 𝕄) := by
  have h := owns_of_rects (Ix := Unit) (Name := ℕ) (U := UU) (Lvl := ℕ) (c : Thread nD τ) cmM fullShare (fun t : Fin 3 × Fin 2 => cmR t.1 t.2) (fun _ _ => rfl) cmR_disj cmR_cover
    (Rect.glue (fun t : Fin 3 × Fin 2 => cmR t.1 t.2) cmR_cover fun t => Y t.1 t.2)
  refine (Entails.of_eq ?_).trans (h.trans ?_)
  · exact (six_eq (fun t => owns (c : Thread nD τ) (cmS t.1 t.2) fullShare (Y t.1 t.2))).symm.trans
      (congrArg (bigSep Finset.univ) (funext fun t => congrArg (owns (c : Thread nD τ) (cmS t.1 t.2) fullShare)
        (funext fun j => (Rect.glue_emb (fun t : Fin 3 × Fin 2 => cmR t.1 t.2) cmR_cover cmR_disj (fun t => Y t.1 t.2) t j).symm)))
  · rw [owns_whole]
    iintro H; iexists _; iexact H

/-! ## Reading a whole buffer, and one device's heads -/

/-- A load of a whole buffer through a rectangle gives the part the rectangle reads. -/
theorem load_part (c : Dev nD) {cs : CoreSpace} {s : Shape} {e : EltTy} (m : Memref sig .tc cs s e)
    {r : Rect s} {hl : m.view.LoadsAt r.toLoadRect} {α : Type} {k : (r.shape.Idx → Elt F e) → Prog (TpuEff nD τ sig (Elt F) Λ₀ .tc) α} {Q : α → sProp (MT nD τ sig Unit (Elt F) ℕ UU ℕ)}
    {f : Buf (Elt F) (m.view.loc (c : Thread nD τ))} :
    ((m.view.loc (c : Thread nD τ)) ↦{fullShare} f : sProp 𝕄)
      ⊢ iprop((((m.view.loc (c : Thread nD τ)) ↦{fullShare} f) -∗ wpc c (k (m.view.readAt (Elt F) r.toLoadRect f)) Q)
        -∗ wpc c (.op (.load m r.toLoadRect hl) k) Q) :=
  wp_load 𝒱₀ (c : Thread nD τ) none Set.univ (Finset.subset_univ _)

/-- A slice of a buffer held whole, and the rest of it. -/
theorem carve (c : Dev nD) {sp : Space} {s : Shape} {e : EltTy} (m : Memref sig .tc sp s e) (r : Rect s) (hr : ∀ a, r.stride a = 1) (f : Buf (Elt F) (m.view.loc (c : Thread nD τ))) :
    ((m.view.loc (c : Thread nD τ)) ↦{fullShare} f : sProp 𝕄)
      ⊢ iprop(((m.slice r hr).view.loc (c : Thread nD τ) ↦[(m.slice r hr).view.set]{fullShare} f)
        ∗ ((m.slice r hr).view.loc (c : Thread nD τ) ↦[Finset.univ \ (m.slice r hr).view.set]{fullShare} f)) :=
  (pointsTo_split_subset (Finset.subset_univ _)).1
theorem uncarve (c : Dev nD) {sp : Space} {s : Shape} {e : EltTy} (m : Memref sig .tc sp s e) (r : Rect s) (hr : ∀ a, r.stride a = 1) (f : Buf (Elt F) (m.view.loc (c : Thread nD τ))) :
    iprop(((m.slice r hr).view.loc (c : Thread nD τ) ↦[(m.slice r hr).view.set]{fullShare} f)
        ∗ ((m.slice r hr).view.loc (c : Thread nD τ) ↦[Finset.univ \ (m.slice r hr).view.set]{fullShare} f))
      ⊢ ((m.view.loc (c : Thread nD τ)) ↦{fullShare} f : sProp 𝕄) :=
  (pointsTo_split_subset (Finset.subset_univ _)).2

variable (I : Ins F) {κ : GSem nD τ sig → ℕ} {α : Type} {Q : α → sProp (MT nD τ sig Unit (Elt F) ℕ UU ℕ)} {K : PUnit → Prog (TpuEff nD τ sig (Elt F) Λ₀ .tc) α}

/-- The start of the copy of device c's keys. -/
theorem k_start (c : Dev nD) {sm : DmaSem sig} (hs : sm = cpD 0) {hsrc : (ktS c).view.WordExact} {hdst : klM.view.WordExact}
    {hsem : DmaTarget.Typed (nD := nD) (τ := τ) (p := .tc) .hbm (.dma sm) (.here klM)} (fd : Buf (Elt F) ((c : Thread nD τ).loc cc0_scratch0)) :
    iprop(recs I κ ∗ ((ktS c).view.loc (c : Thread nD τ) ↦[(ktS c).view.set]{fullShare} (I.kt c)) ∗ pt c cc0_scratch0 fd ∗ dutyTok ER (cpC c 0) 0 0 ∗ reached ER (cpC c 0) 0)
      ⊢ iprop((cred (tallyAt (cpC c 0) () Nc) -∗ wpc c (K ⟨⟩) Q) -∗ wpc c (.op (.enqueueDma (ktS c) (.here klM) (.dma sm) hsrc hdst hsem) K) Q) := by
  have h := cp_start (Q := Q) (K := K) (κ := κ) I c 0 hs (src := ktS c) (dst := klM) (hsrc := hsrc) (hdst := hdst) (hsem := hsem) (fs := I.kt c) (fd := fd) rfl (by
    rw [payload_k]; unfold kPay
    rw [show klM.view.set = Finset.univ from View.set_whole _, show klM.view.write (Elt F) fd ((ktS c).view.read (Elt F) (I.kt c)) Finset.univ = kl I c from View.write_whole_univ _ _ _])
  rw [show klM.view.set = Finset.univ from View.set_whole _] at h
  exact h

/-- The start of the copy of device c's values. -/
theorem v_start (c : Dev nD) {sm : DmaSem sig} (hs : sm = cpD 1) {hsrc : (vtS c).view.WordExact} {hdst : vlM.view.WordExact}
    {hsem : DmaTarget.Typed (nD := nD) (τ := τ) (p := .tc) .hbm (.dma sm) (.here vlM)} (fd : Buf (Elt F) ((c : Thread nD τ).loc cc0_scratch1)) :
    iprop(recs I κ ∗ ((vtS c).view.loc (c : Thread nD τ) ↦[(vtS c).view.set]{fullShare} (I.vt c)) ∗ pt c cc0_scratch1 fd ∗ dutyTok ER (cpC c 1) 0 0 ∗ reached ER (cpC c 1) 0)
      ⊢ iprop((cred (tallyAt (cpC c 1) () Nc) -∗ wpc c (K ⟨⟩) Q) -∗ wpc c (.op (.enqueueDma (vtS c) (.here vlM) (.dma sm) hsrc hdst hsem) K) Q) := by
  have h := cp_start (Q := Q) (K := K) (κ := κ) I c 1 hs (src := vtS c) (dst := vlM) (hsrc := hsrc) (hdst := hdst) (hsem := hsem) (fs := I.vt c) (fd := fd) rfl (by
    rw [payload_v]; unfold vPay
    rw [show vlM.view.set = Finset.univ from View.set_whole _, show vlM.view.write (Elt F) fd ((vtS c).view.read (Elt F) (I.vt c)) Finset.univ = vl I c from View.write_whole_univ _ _ _])
  rw [show vlM.view.set = Finset.univ from View.set_whole _] at h
  exact h

end Cert.KernelIdeal.Butterfly

end
-- ==== Proof.Body.lean ====
/-
  THE BODY on one device, run once at a device c with no case split: from its inputs at known contents, its scratch at any,
  and its part of the exchange freshly opened, to the result at the running sums after three rounds, every semaphore back at
  zero and nothing owed.
-/
module

public import proofs.«01_k».proof.Proof.Blocks

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## The two ends -/

/-- Device c's part of the exchange with every cell just opened: its positions on its own cells, that they are open, and the
    duties it performs on its own and its partners' cells. -/
def opened (c : Dev nD) : sProp 𝕄 :=
  iprop(atPos ER (barC c) 0 ∅ 0 ∗ atPos ER (exC c) 0 ∅ 0 ∗ (atPos ER (cpC c 0) 0 ∅ 0 ∗ atPos ER (cpC c 1) 0 ∅ 0)
    ∗ (six fun r b => atPos ER (sndC c r b) 0 ∅ 0) ∗ (six fun r b => atPos ER (rcvC c r b) 0 ∅ 0)
    ∗ reached ER (exC c) 0 ∗ (reached ER (cpC c 0) 0 ∗ reached ER (cpC c 1) 0)
    ∗ (six fun r b => reached ER (sndC c r b) 0) ∗ (six fun r b => reached ER (rcvC c r b) 0))
def duties (c : Dev nD) : sProp 𝕄 :=
  iprop((dutyTok ER (barC (pr 0 c)) 0 0 ∗ dutyTok ER (barC (pr 1 c)) 0 1 ∗ dutyTok ER (barC (pr 2 c)) 0 2)
    ∗ (dutyTok ER (exC (pr 0 c)) 0 0 ∗ dutyTok ER (exC (pr 1 c)) 0 1 ∗ dutyTok ER (exC (pr 2 c)) 0 2)
    ∗ (dutyTok ER (cpC c 0) 0 0 ∗ dutyTok ER (cpC c 1) 0 0)
    ∗ (six fun r b => dutyTok ER (sndC c r b) 0 0) ∗ (six fun r b => dutyTok ER (rcvC (pr r.val c) r b) 0 0))
def creds (c : Dev nD) : sProp 𝕄 :=
  iprop(cred (tallyAt (barC c) () 3) ∗ cred (tallyAt (exC c) () 3) ∗ six fun r b => cred (tallyAt (rcvC c r b) () Ns))

/-- What the kernel leaves in its result buffer on device c. -/
def outAt (c : Dev nD) : Vec F S2x128x512 .f32 := rows fun b => acc I 3 c b

def ends (c : Dev nD) : sProp 𝕄 :=
  iprop(pt c cc0_stg0_0 (I.x c) ∗ pt c cc0_stg1_0 (I.wq c) ∗ pt c cc0_stg2_0 (I.wo c) ∗ pt c main_v1 (I.kt c) ∗ pt c main_v2 (I.vt c))
def scratch (c : Dev nD) : sProp 𝕄 :=
  iprop((∃ f, pt c cc0_scratch0 f) ∗ (∃ f, pt c cc0_scratch1 f) ∗ (∃ f, pt c cc0_scratch3 f) ∗ ∃ f, pt c cc0_scratch4 f)
def counters (c : Dev nD) : sProp 𝕄 :=
  iprop(semVal (barC c) 0 ∗ semVal (exC c) 0 ∗ (semVal (cpC c 0) 0 ∗ semVal (cpC c 1) 0) ∗ (six fun r b => semVal (sndC c r b) 0) ∗ six fun r b => semVal (rcvC c r b) 0)

def bodyPre (κ : GSem nD τ sig → ℕ) (c : Dev nD) : sProp 𝕄 :=
  iprop(recs I κ ∗ opened c ∗ duties c ∗ creds c ∗ ends I c ∗ (∃ f, pt c cc0_stg3_0 f) ∗ scratch c ∗ owe c 12)
def bodyPost (c : Dev nD) : sProp 𝕄 :=
  iprop(counters c ∗ ends I c ∗ pt c cc0_stg3_0 (outAt I c) ∗ scratch c ∗ owe c 0)

/-! ## Waits on one's own transfer cells -/

variable {κ : GSem nD τ sig → ℕ} {α : Type} {Q : α → sProp (MT nD τ sig Unit (Elt F) ℕ UU ℕ)} {K : PUnit → Prog (TpuEff nD τ sig (Elt F) Λ₀ .tc) α}

theorem wait_snd (c : Dev nD) (r : Fin 3) (b : Fin 2) (k : ℕ) (hlt : ∀ i, i < k → lvl (.dma (sndD r b)) < lvl (payS i)) {sm : DmaSem sig} (hs : sm = sndD r b)
    {sp sp' : Space} {s s' : Shape} {e e' : EltTy} {src : Memref sig .tc sp' s' e'} {dst : Memref sig .tc sp s e} {hsrc : src.view.WordExact} {hdst : dst.view.WordExact}
    (hN : dst.view.dmaCredit = Ns) :
    iprop(recs I κ ∗ cred (tallyAt (sndC c r b) () Ns) ∗ owe c k ∗ atPos ER (sndC c r b) 0 ∅ 0)
      ⊢ iprop(((owe c k ∗ atPos ER (sndC c r b) (0 + 1) ∅ 0 ∗ owns (c : Thread nD τ) (sbS b) fullShare (snd I r.val c b)) -∗ wpc c (K ⟨⟩) Q)
          -∗ wpc c (.op (.waitDma2 sm src dst hsrc hdst) K) Q) :=
  dma_wait I c (sndD r b) Ns _ (expect_snd I c r b) (mem_snd c r b) (rest_snd I c r b) k hlt hs hN
theorem wait_rcv (c : Dev nD) (r : Fin 3) (b : Fin 2) (k : ℕ) (hlt : ∀ i, i < k → lvl (.dma (rcvD r b)) < lvl (payS i)) {sm : DmaSem sig} (hs : sm = rcvD r b)
    {sp sp' : Space} {s s' : Shape} {e e' : EltTy} {src : Memref sig .tc sp' s' e'} {dst : Memref sig .tc sp s e} {hsrc : src.view.WordExact} {hdst : dst.view.WordExact}
    (hN : dst.view.dmaCredit = Ns) :
    iprop(recs I κ ∗ cred (tallyAt (rcvC c r b) () Ns) ∗ owe c k ∗ atPos ER (rcvC c r b) 0 ∅ 0)
      ⊢ iprop(((owe c k ∗ atPos ER (rcvC c r b) (0 + 1) ∅ 0 ∗ owns (c : Thread nD τ) (cmS r b) fullShare (inc I r.val c b)) -∗ wpc c (K ⟨⟩) Q)
          -∗ wpc c (.op (.waitDma2 sm src dst hsrc hdst) K) Q) :=
  dma_wait I c (rcvD r b) Ns _ (expect_rcv I c r b) (mem_rcv c r b) (rest_rcv I c r b) k hlt hs hN

/-- The stores of the running sum and of what goes out, each under its name. -/
theorem store_out (c : Dev nD) (b : Fin 2) (X Y : Vec F S1x128x512 .f32) {w : (rowR b).shape.Idx → Elt F .f32} (h : w = Y)
    {hx : (outM.access (rowR b)).Stores Finset.univ} {hm : (Finset.univ : Finset (rowR b).shape.Idx) = Finset.univ ∨ ∀ a, (rowR b).stride a = 1} :
    (owns (c : Thread nD τ) (outS b) fullShare X : sProp 𝕄)
      ⊢ iprop((owns (c : Thread nD τ) (outS b) fullShare Y -∗ wpc c (K ⟨⟩) Q) -∗ wpc c (.op (.store outM (rowR b) w Finset.univ hx hm) K) Q) := by
  subst h; exact store_slab c (fun _ => rfl)
theorem store_snd (c : Dev nD) (b : Fin 2) (X Y : Vec F S1x128x512 .bf16) {w : (rowR b).shape.Idx → Elt F .bf16} (h : w = Y)
    {hx : (sbM.access (rowR b)).Stores Finset.univ} {hm : (Finset.univ : Finset (rowR b).shape.Idx) = Finset.univ ∨ ∀ a, (rowR b).stride a = 1} :
    (owns (c : Thread nD τ) (sbS b) fullShare X : sProp 𝕄)
      ⊢ iprop((owns (c : Thread nD τ) (sbS b) fullShare Y -∗ wpc c (K ⟨⟩) Q) -∗ wpc c (.op (.store sbM (rowR b) w Finset.univ hx hm) K) Q) := by
  subst h; exact store_slab c (fun _ => rfl)

/-- Loads of a row of the result, a row of the outgoing buffer and a landing block. -/
theorem load_out (c : Dev nD) (b : Fin 2) (X : Vec F S1x128x512 .f32) {hl : outM.view.LoadsAt (rowR b).toLoadRect}
    {k : ((rowR b).shape.Idx → Elt F .f32) → Prog (TpuEff nD τ sig (Elt F) Λ₀ .tc) α} :
    (owns (c : Thread nD τ) (outS b) fullShare X : sProp 𝕄)
      ⊢ iprop((owns (c : Thread nD τ) (outS b) fullShare X -∗ wpc c (k X) Q) -∗ wpc c (.op (.load outM (rowR b).toLoadRect hl) k) Q) :=
  load_slab c (fun _ => rfl)
theorem load_snd (c : Dev nD) (b : Fin 2) (X : Vec F S1x128x512 .bf16) {hl : sbM.view.LoadsAt (rowR b).toLoadRect}
    {k : ((rowR b).shape.Idx → Elt F .bf16) → Prog (TpuEff nD τ sig (Elt F) Λ₀ .tc) α} :
    (owns (c : Thread nD τ) (sbS b) fullShare X : sProp 𝕄)
      ⊢ iprop((owns (c : Thread nD τ) (sbS b) fullShare X -∗ wpc c (k X) Q) -∗ wpc c (.op (.load sbM (rowR b).toLoadRect hl) k) Q) :=
  load_slab c (fun _ => rfl)
theorem load_cm (c : Dev nD) (r : Fin 3) (b : Fin 2) (X : Vec F S1x1x128x512 .bf16) {hl : cmM.view.LoadsAt (cmR r b).toLoadRect}
    {k : ((cmR r b).shape.Idx → Elt F .bf16) → Prog (TpuEff nD τ sig (Elt F) Λ₀ .tc) α} :
    (owns (c : Thread nD τ) (cmS r b) fullShare X : sProp 𝕄)
      ⊢ iprop((owns (c : Thread nD τ) (cmS r b) fullShare X -∗ wpc c (k X) Q) -∗ wpc c (.op (.load cmM (cmR r b).toLoadRect hl) k) Q) :=
  load_slab c (fun _ => rfl)

/-- Six cells close together. -/
theorem close_six (g : Fin 3 → Fin 2 → GSem nD τ sig) (hg : ∀ r b, g r b ∈ (barCells ∪ scCells : Finset (GSem nD τ sig))) :
    iprop(recs I κ ∗ six fun r b => atPos ER (g r b) (0 + 1) ∅ 0) ⊢ (|={Set.univ}=> six fun r b => semVal (g r b) 0 : sProp 𝕄) := by
  iintro ⟨#HR, A1, A2, A3, A4, A5, A6⟩
  imod (close I (g 0 0) (hg 0 0)) $$ [A1] with Z1
  · isplitr; · iexact HR
    iexact A1
  imod (close I (g 0 1) (hg 0 1)) $$ [A2] with Z2
  · isplitr; · iexact HR
    iexact A2
  imod (close I (g 1 0) (hg 1 0)) $$ [A3] with Z3
  · isplitr; · iexact HR
    iexact A3
  imod (close I (g 1 1) (hg 1 1)) $$ [A4] with Z4
  · isplitr; · iexact HR
    iexact A4
  imod (close I (g 2 0) (hg 2 0)) $$ [A5] with Z5
  · isplitr; · iexact HR
    iexact A5
  imod (close I (g 2 1) (hg 2 1)) $$ [A6] with Z6
  · isplitr; · iexact HR
    iexact A6
  imodintro
  isplitl [Z1]; · iexact Z1
  isplitl [Z2]; · iexact Z2
  isplitl [Z3]; · iexact Z3
  isplitl [Z4]; · iexact Z4
  isplitl [Z5] <;> iassumption

/-! ## The run -/

set_option maxHeartbeats 4000000 in
theorem body_run (κ : GSem nD τ sig → ℕ) (c : Dev nD) (Kt : PUnit → sProp 𝕄) :
    iprop(bodyPre I κ c ∗ (bodyPost I c -∗ Kt ⟨⟩)) ⊢ wpc c (bodyAt0 (F := F) t0_0) Kt := by
  show _ ⊢ wpc c (cc0_body xM (Memref.isWhole_whole _) wqM (Memref.isWhole_whole _) ktM (Memref.isWhole_whole _) vtM (Memref.isWhole_whole _)
    woM (Memref.isWhole_whole _) outM (Memref.isWhole_whole _) klM (Memref.isWhole_whole _) vlM (Memref.isWhole_whole _) cc0_scratch2
    sbM (Memref.isWhole_whole _) cmM (Memref.isWhole_whole _) cc0_scratch5 cc0_scratch6 cc0_scoped0) Kt
  unfold wpc
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton, k0_part15_eq_skeleton, k0_part16_eq_skeleton, k0_part17_eq_skeleton,
    k0_part1_skel, k0_part2_skel, k0_part3_skel, k0_part4_skel, k0_part5_skel, k0_part6_skel, k0_part7_skel, k0_part8_skel, k0_part9_skel,
    k0_part10_skel, k0_part11_skel, k0_part12_skel, k0_part13_skel, k0_part14_skel, k0_part15_skel, k0_part16_skel, k0_part17_skel,
    Prog.lift, Prog.bind_op, Prog.bind_ret, Prog.pure_eq_ret, semSignalWord, semWaitWord, wp_deviceId]
  unfold bodyPre opened duties creds ends scratch
  iintro ⟨⟨#HR, ⟨HaB, HaX, ⟨HaK, HaV⟩, ⟨As00, As01, As10, As11, As20, As21⟩, ⟨Ar00, Ar01, Ar10, Ar11, Ar20, Ar21⟩, #HrX, ⟨HrK, HrV⟩,
      ⟨Rs00, Rs01, Rs10, Rs11, Rs20, Rs21⟩, ⟨Rr00, Rr01, Rr10, Rr11, Rr20, Rr21⟩⟩,
    ⟨⟨TB0, TB1, TB2⟩, ⟨TX0, TX1, TX2⟩, ⟨TK, TV⟩, ⟨Ts00, Ts01, Ts10, Ts11, Ts20, Ts21⟩, ⟨Tr00, Tr01, Tr10, Tr11, Tr20, Tr21⟩⟩,
    ⟨CB, CX, ⟨Cr00, Cr01, Cr10, Cr11, Cr20, Cr21⟩⟩, ⟨Hx, Hwq, Hwo, Hkt, Hvt⟩, ⟨%fo, Hout⟩, ⟨⟨%f0, Hkl⟩, ⟨%f1, Hvl⟩, ⟨%f3, Hsb⟩, ⟨%f4, Hcm⟩⟩, HO⟩, Hk⟩
  -- the buffers in blocks
  ihave Hout := (Entails.of_eq (owns_whole (c : Thread nD τ) cc0_stg3_0 fullShare fo).symm) $$ Hout
  ihave Hout := (split_rows c outM fo) $$ Hout
  icases Hout with ⟨Ho0, Ho1⟩
  ihave Hsb := (Entails.of_eq (owns_whole (c : Thread nD τ) cc0_scratch3 fullShare f3).symm) $$ Hsb
  ihave Hsb := (split_rows c sbM f3) $$ Hsb
  icases Hsb with ⟨Hs0, Hs1⟩
  ihave Hcm := (Entails.of_eq (owns_whole (c : Thread nD τ) cc0_scratch4 fullShare f4).symm) $$ Hcm
  ihave Hcm := (split_land c f4) $$ Hcm
  icases Hcm with ⟨L00, L01, L10, L11, L20, L21⟩
  ihave Hkt := (carve c ktM (headR c) (fun _ => rfl) (I.kt c)) $$ Hkt
  icases Hkt with ⟨Hkt, Hkt'⟩
  ihave Hvt := (carve c vtM (headR c) (fun _ => rfl) (I.vt c)) $$ Hvt
  icases Hvt with ⟨Hvt, Hvt'⟩
  -- the local copies start
  iapply (k_start I c (κ := κ) (by rfl) f0) $$ [Hkt Hkl TK HrK]
  · isplitr; · iexact HR
    isplitl [Hkt]; · iexact Hkt
    isplitl [Hkl]; · iexact Hkl
    isplitl [TK] <;> iassumption
  iintro CK
  iapply (v_start I c (κ := κ) (by rfl) f1) $$ [Hvt Hvl TV HrV]
  · isplitr; · iexact HR
    isplitl [Hvt]; · iexact Hvt
    isplitl [Hvl]; · iexact Hvl
    isplitl [TV] <;> iassumption
  iintro CV
  -- the three partners are told, and heard
  iapply (bar_signal I c 0 11 rfl rfl (dev1 c) (by rfl) (by decide)) $$ [HO TB0 L00 L01 Rr00 Rr01]
  · isplitr; · iexact HR
    isplitl [HO]; · iexact HO
    isplitl [TB0]; · iexact TB0
    isplitl [L00]; · iexact L00
    isplitl [L01]; · iexact L01
    isplitl [Rr00]; · iexact Rr00
    isplitl [Rr01]; · iexact Rr01
    iexact HrX
  iintro HO
  iapply (bar_signal I c 1 10 rfl rfl (dev2 c) (by rfl) (by decide)) $$ [HO TB1 L10 L11 Rr10 Rr11]
  · isplitr; · iexact HR
    isplitl [HO]; · iexact HO
    isplitl [TB1]; · iexact TB1
    isplitl [L10]; · iexact L10
    isplitl [L11]; · iexact L11
    isplitl [Rr10]; · iexact Rr10
    isplitl [Rr11]; · iexact Rr11
    iexact HrX
  iintro HO
  iapply (bar_signal I c 2 9 rfl rfl (dev3 c) (by rfl) (by decide)) $$ [HO TB2 L20 L21 Rr20 Rr21]
  · isplitr; · iexact HR
    isplitl [HO]; · iexact HO
    isplitl [TB2]; · iexact TB2
    isplitl [L20]; · iexact L20
    isplitl [L21]; · iexact L21
    isplitl [Rr20]; · iexact Rr20
    isplitl [Rr21]; · iexact Rr21
    iexact HrX
  iintro HO
  iapply (bar_wait I c 9 (by decide) (by rfl) (by decide)) $$ [CB HO HaB]
  · isplitr; · iexact HR
    isplitl [CB]; · iexact CB
    isplitl [HO] <;> iassumption
  unfold barPay
  iintro ⟨HO, HaB, ⟨D00, D01, Rr00, Rr01, RX0⟩, ⟨D10, D11, Rr10, Rr11, RX1⟩, ⟨D20, D21, Rr20, Rr21, RX2⟩⟩
  -- the keys and values arrive
  iapply (dma_wait I c (cpD 0) Nc _ (expect_cp I c 0) (mem_cp c 0) (rest_k I c) 9 (by decide) (by rfl) (by rfl)) $$ [CK HO HaK]
  · isplitr; · iexact HR
    isplitl [CK]; · iexact CK
    isplitl [HO] <;> iassumption
  unfold kPay
  iintro ⟨HO, HaK, ⟨Hkl, Hkt⟩⟩
  iapply (dma_wait I c (cpD 1) Nc _ (expect_cp I c 1) (mem_cp c 1) (rest_v I c) 9 (by decide) (by rfl) (by rfl)) $$ [CV HO HaV]
  · isplitr; · iexact HR
    isplitl [CV]; · iexact CV
    isplitl [HO] <;> iassumption
  unfold vPay
  iintro ⟨HO, HaV, ⟨Hvl, Hvt⟩⟩
  -- row 0: the own partial result, stored and sent
  iapply (load_part c wqM) $$ Hwq; iintro Hwq
  iapply (load_part c woM) $$ Hwo; iintro Hwo
  iapply (load_part c xM) $$ Hx; iintro Hx
  iapply (load_part c klM) $$ Hkl; iintro Hkl
  iapply (load_part c vlM) $$ Hvl; iintro Hvl
  iapply (load_out c 0 (part (rowR 0) fo)) $$ Ho0; iintro Ho0
  iapply (store_out c 0 (part (rowR 0) fo) (acc I 0 c 0) (by rfl)) $$ Ho0; iintro Ho0
  iapply (load_snd c 0 (part (rowR 0) f3)) $$ Hs0; iintro Hs0
  iapply (store_snd c 0 (part (rowR 0) f3) (snd I 0 c 0) (by rfl)) $$ Hs0; iintro Hs0
  iapply (send I c 0 0 8 rfl rfl rfl (dev4 c) (by rfl) (by rfl)) $$ [HO Hs0 D00 Ts00 Rs00 Tr00 Rr00]
  · isplitr; · iexact HR
    isplitl [HO]; · iexact HO
    isplitl [Hs0]; · iexact Hs0
    isplitl [D00]; · iexact D00
    isplitl [Ts00]; · iexact Ts00
    isplitl [Rs00]; · iexact Rs00
    isplitl [Tr00]; · iexact Tr00
    iexact Rr00
  iintro ⟨Cs00, HO⟩
  -- row 1 likewise
  iapply (load_part c xM) $$ Hx; iintro Hx
  iapply (load_part c klM) $$ Hkl; iintro Hkl
  iapply (load_part c vlM) $$ Hvl; iintro Hvl
  iapply (load_out c 1 (part (rowR 1) fo)) $$ Ho1; iintro Ho1
  iapply (store_out c 1 (part (rowR 1) fo) (acc I 0 c 1) (by rfl)) $$ Ho1; iintro Ho1
  iapply (load_snd c 1 (part (rowR 1) f3)) $$ Hs1; iintro Hs1
  iapply (store_snd c 1 (part (rowR 1) f3) (snd I 0 c 1) (by rfl)) $$ Hs1; iintro Hs1
  iapply (send I c 0 1 7 rfl rfl rfl (dev5 c) (by rfl) (by rfl)) $$ [HO Hs1 D01 Ts01 Rs01 Tr01 Rr01]
  · isplitr; · iexact HR
    isplitl [HO]; · iexact HO
    isplitl [Hs1]; · iexact Hs1
    isplitl [D01]; · iexact D01
    isplitl [Ts01]; · iexact Ts01
    isplitl [Rs01]; · iexact Rs01
    isplitl [Tr01]; · iexact Tr01
    iexact Rr01
  iintro ⟨Cs01, HO⟩
  -- round 0, row 0: what arrived is added, and the sum goes out for round 1
  iapply (wait_snd I c 0 0 7 (by decide) (by rfl) (by rfl)) $$ [Cs00 HO As00]
  · isplitr; · iexact HR
    isplitl [Cs00]; · iexact Cs00
    isplitl [HO] <;> iassumption
  iintro ⟨HO, As00, Hs0⟩
  iapply (wait_rcv I c 0 0 7 (by decide) (by rfl) (by rfl)) $$ [Cr00 HO Ar00]
  · isplitr; · iexact HR
    isplitl [Cr00]; · iexact Cr00
    isplitl [HO] <;> iassumption
  iintro ⟨HO, Ar00, L00⟩
  iapply (load_out c 0 (acc I 0 c 0)) $$ Ho0; iintro Ho0
  iapply (load_cm c 0 0 (inc I (0 : Fin 3).val c 0)) $$ L00; iintro L00
  iapply (load_out c 0 (acc I 0 c 0)) $$ Ho0; iintro Ho0
  iapply (store_out c 0 (acc I 0 c 0) (acc I 1 c 0) (by rfl)) $$ Ho0; iintro Ho0
  iapply (load_snd c 0 (snd I (0 : Fin 3).val c 0)) $$ Hs0; iintro Hs0
  iapply (store_snd c 0 (snd I (0 : Fin 3).val c 0) (snd I 1 c 0) (by rfl)) $$ Hs0; iintro Hs0
  iapply (send I c 1 0 6 rfl rfl rfl (dev6 c) (by rfl) (by rfl)) $$ [HO Hs0 D10 Ts10 Rs10 Tr10 Rr10]
  · isplitr; · iexact HR
    isplitl [HO]; · iexact HO
    isplitl [Hs0]; · iexact Hs0
    isplitl [D10]; · iexact D10
    isplitl [Ts10]; · iexact Ts10
    isplitl [Rs10]; · iexact Rs10
    isplitl [Tr10]; · iexact Tr10
    iexact Rr10
  iintro ⟨Cs10, HO⟩
  -- round 0, row 1
  iapply (wait_snd I c 0 1 6 (by decide) (by rfl) (by rfl)) $$ [Cs01 HO As01]
  · isplitr; · iexact HR
    isplitl [Cs01]; · iexact Cs01
    isplitl [HO] <;> iassumption
  iintro ⟨HO, As01, Hs1⟩
  iapply (wait_rcv I c 0 1 6 (by decide) (by rfl) (by rfl)) $$ [Cr01 HO Ar01]
  · isplitr; · iexact HR
    isplitl [Cr01]; · iexact Cr01
    isplitl [HO] <;> iassumption
  iintro ⟨HO, Ar01, L01⟩
  iapply (load_out c 1 (acc I 0 c 1)) $$ Ho1; iintro Ho1
  iapply (load_cm c 0 1 (inc I (0 : Fin 3).val c 1)) $$ L01; iintro L01
  iapply (load_out c 1 (acc I 0 c 1)) $$ Ho1; iintro Ho1
  iapply (store_out c 1 (acc I 0 c 1) (acc I 1 c 1) (by rfl)) $$ Ho1; iintro Ho1
  iapply (load_snd c 1 (snd I (0 : Fin 3).val c 1)) $$ Hs1; iintro Hs1
  iapply (store_snd c 1 (snd I (0 : Fin 3).val c 1) (snd I 1 c 1) (by rfl)) $$ Hs1; iintro Hs1
  iapply (send I c 1 1 5 rfl rfl rfl (dev7 c) (by rfl) (by rfl)) $$ [HO Hs1 D11 Ts11 Rs11 Tr11 Rr11]
  · isplitr; · iexact HR
    isplitl [HO]; · iexact HO
    isplitl [Hs1]; · iexact Hs1
    isplitl [D11]; · iexact D11
    isplitl [Ts11]; · iexact Ts11
    isplitl [Rs11]; · iexact Rs11
    isplitl [Tr11]; · iexact Tr11
    iexact Rr11
  iintro ⟨Cs11, HO⟩
  -- round 1, row 0
  iapply (wait_snd I c 1 0 5 (by decide) (by rfl) (by rfl)) $$ [Cs10 HO As10]
  · isplitr; · iexact HR
    isplitl [Cs10]; · iexact Cs10
    isplitl [HO] <;> iassumption
  iintro ⟨HO, As10, Hs0⟩
  iapply (wait_rcv I c 1 0 5 (by decide) (by rfl) (by rfl)) $$ [Cr10 HO Ar10]
  · isplitr; · iexact HR
    isplitl [Cr10]; · iexact Cr10
    isplitl [HO] <;> iassumption
  iintro ⟨HO, Ar10, L10⟩
  iapply (load_out c 0 (acc I 1 c 0)) $$ Ho0; iintro Ho0
  iapply (load_cm c 1 0 (inc I (1 : Fin 3).val c 0)) $$ L10; iintro L10
  iapply (load_out c 0 (acc I 1 c 0)) $$ Ho0; iintro Ho0
  iapply (store_out c 0 (acc I 1 c 0) (acc I 2 c 0) (by rfl)) $$ Ho0; iintro Ho0
  iapply (load_snd c 0 (snd I (1 : Fin 3).val c 0)) $$ Hs0; iintro Hs0
  iapply (store_snd c 0 (snd I (1 : Fin 3).val c 0) (snd I 2 c 0) (by rfl)) $$ Hs0; iintro Hs0
  iapply (send I c 2 0 4 rfl rfl rfl (dev8 c) (by rfl) (by rfl)) $$ [HO Hs0 D20 Ts20 Rs20 Tr20 Rr20]
  · isplitr; · iexact HR
    isplitl [HO]; · iexact HO
    isplitl [Hs0]; · iexact Hs0
    isplitl [D20]; · iexact D20
    isplitl [Ts20]; · iexact Ts20
    isplitl [Rs20]; · iexact Rs20
    isplitl [Tr20]; · iexact Tr20
    iexact Rr20
  iintro ⟨Cs20, HO⟩
  -- round 1, row 1
  iapply (wait_snd I c 1 1 4 (by decide) (by rfl) (by rfl)) $$ [Cs11 HO As11]
  · isplitr; · iexact HR
    isplitl [Cs11]; · iexact Cs11
    isplitl [HO] <;> iassumption
  iintro ⟨HO, As11, Hs1⟩
  iapply (wait_rcv I c 1 1 4 (by decide) (by rfl) (by rfl)) $$ [Cr11 HO Ar11]
  · isplitr; · iexact HR
    isplitl [Cr11]; · iexact Cr11
    isplitl [HO] <;> iassumption
  iintro ⟨HO, Ar11, L11⟩
  iapply (load_out c 1 (acc I 1 c 1)) $$ Ho1; iintro Ho1
  iapply (load_cm c 1 1 (inc I (1 : Fin 3).val c 1)) $$ L11; iintro L11
  iapply (load_out c 1 (acc I 1 c 1)) $$ Ho1; iintro Ho1
  iapply (store_out c 1 (acc I 1 c 1) (acc I 2 c 1) (by rfl)) $$ Ho1; iintro Ho1
  iapply (load_snd c 1 (snd I (1 : Fin 3).val c 1)) $$ Hs1; iintro Hs1
  iapply (store_snd c 1 (snd I (1 : Fin 3).val c 1) (snd I 2 c 1) (by rfl)) $$ Hs1; iintro Hs1
  iapply (send I c 2 1 3 rfl rfl rfl (dev9 c) (by rfl) (by rfl)) $$ [HO Hs1 D21 Ts21 Rs21 Tr21 Rr21]
  · isplitr; · iexact HR
    isplitl [HO]; · iexact HO
    isplitl [Hs1]; · iexact Hs1
    isplitl [D21]; · iexact D21
    isplitl [Ts21]; · iexact Ts21
    isplitl [Rs21]; · iexact Rs21
    isplitl [Tr21]; · iexact Tr21
    iexact Rr21
  iintro ⟨Cs21, HO⟩
  -- round 2: the last sums
  iapply (wait_snd I c 2 0 3 (by decide) (by rfl) (by rfl)) $$ [Cs20 HO As20]
  · isplitr; · iexact HR
    isplitl [Cs20]; · iexact Cs20
    isplitl [HO] <;> iassumption
  iintro ⟨HO, As20, Hs0⟩
  iapply (wait_rcv I c 2 0 3 (by decide) (by rfl) (by rfl)) $$ [Cr20 HO Ar20]
  · isplitr; · iexact HR
    isplitl [Cr20]; · iexact Cr20
    isplitl [HO] <;> iassumption
  iintro ⟨HO, Ar20, L20⟩
  iapply (load_out c 0 (acc I 2 c 0)) $$ Ho0; iintro Ho0
  iapply (load_cm c 2 0 (inc I (2 : Fin 3).val c 0)) $$ L20; iintro L20
  iapply (load_out c 0 (acc I 2 c 0)) $$ Ho0; iintro Ho0
  iapply (store_out c 0 (acc I 2 c 0) (acc I 3 c 0) (by rfl)) $$ Ho0; iintro Ho0
  iapply (wait_snd I c 2 1 3 (by decide) (by rfl) (by rfl)) $$ [Cs21 HO As21]
  · isplitr; · iexact HR
    isplitl [Cs21]; · iexact Cs21
    isplitl [HO] <;> iassumption
  iintro ⟨HO, As21, Hs1⟩
  iapply (wait_rcv I c 2 1 3 (by decide) (by rfl) (by rfl)) $$ [Cr21 HO Ar21]
  · isplitr; · iexact HR
    isplitl [Cr21]; · iexact Cr21
    isplitl [HO] <;> iassumption
  iintro ⟨HO, Ar21, L21⟩
  iapply (load_out c 1 (acc I 2 c 1)) $$ Ho1; iintro Ho1
  iapply (load_cm c 2 1 (inc I (2 : Fin 3).val c 1)) $$ L21; iintro L21
  iapply (load_out c 1 (acc I 2 c 1)) $$ Ho1; iintro Ho1
  iapply (store_out c 1 (acc I 2 c 1) (acc I 3 c 1) (by rfl)) $$ Ho1; iintro Ho1
  -- the partners are told that this device is done, and heard
  iapply (ex_signal I c 0 2 rfl rfl (dev10 c) (by rfl) (by decide)) $$ [HO TX0 RX0]
  · isplitr; · iexact HR
    isplitl [HO]; · iexact HO
    isplitl [TX0]; · iexact TX0
    iexact RX0
  iintro HO
  iapply (ex_signal I c 1 1 rfl rfl (dev11 c) (by rfl) (by decide)) $$ [HO TX1 RX1]
  · isplitr; · iexact HR
    isplitl [HO]; · iexact HO
    isplitl [TX1]; · iexact TX1
    iexact RX1
  iintro HO
  iapply (ex_signal I c 2 0 rfl rfl (dev12 c) (by rfl) (by decide)) $$ [HO TX2 RX2]
  · isplitr; · iexact HR
    isplitl [HO]; · iexact HO
    isplitl [TX2]; · iexact TX2
    iexact RX2
  iintro HO
  iapply (ex_wait I c (by rfl) (by decide)) $$ [CX HO HaX]
  · isplitr; · iexact HR
    isplitl [CX]; · iexact CX
    isplitl [HO] <;> iassumption
  iintro ⟨HO, HaX⟩
  -- every cell closes
  imod (close I (barC c) (mem_bar c)) $$ [HaB] with ZB
  · isplitr; · iexact HR
    iexact HaB
  imod (close I (exC c) (mem_ex c)) $$ [HaX] with ZX
  · isplitr; · iexact HR
    iexact HaX
  imod (close I (cpC c 0) (mem_cp c 0)) $$ [HaK] with ZK
  · isplitr; · iexact HR
    iexact HaK
  imod (close I (cpC c 1) (mem_cp c 1)) $$ [HaV] with ZV
  · isplitr; · iexact HR
    iexact HaV
  imod (close_six I (fun r b => sndC c r b) (mem_snd c)) $$ [As00 As01 As10 As11 As20 As21] with Zs
  · isplitr; · iexact HR
    isplitl [As00]; · iexact As00
    isplitl [As01]; · iexact As01
    isplitl [As10]; · iexact As10
    isplitl [As11]; · iexact As11
    isplitl [As20] <;> iassumption
  imod (close_six I (fun r b => rcvC c r b) (mem_rcv c)) $$ [Ar00 Ar01 Ar10 Ar11 Ar20 Ar21] with Zr
  · isplitr; · iexact HR
    isplitl [Ar00]; · iexact Ar00
    isplitl [Ar01]; · iexact Ar01
    isplitl [Ar10]; · iexact Ar10
    isplitl [Ar11]; · iexact Ar11
    isplitl [Ar20] <;> iassumption
  rw [wp_ret]; imodintro
  iapply Hk
  unfold bodyPost counters ends scratch
  isplitl [ZB ZX ZK ZV Zs Zr]
  · isplitl [ZB]; · iexact ZB
    isplitl [ZX]; · iexact ZX
    isplitl [ZK ZV]; · isplitl [ZK] <;> iassumption
    isplitl [Zs] <;> iassumption
  isplitl [Hx Hwq Hwo Hkt Hkt' Hvt Hvt']
  · isplitl [Hx]; · iexact Hx
    isplitl [Hwq]; · iexact Hwq
    isplitl [Hwo]; · iexact Hwo
    isplitl [Hkt Hkt']
    · iapply (uncarve c ktM (headR c) (fun _ => rfl) (I.kt c))
      isplitl [Hkt]; · iexact Hkt
      iexact Hkt'
    · iapply (uncarve c vtM (headR c) (fun _ => rfl) (I.vt c))
      isplitl [Hvt]; · iexact Hvt
      iexact Hvt'
  isplitl [Ho0 Ho1]
  · iapply (Entails.of_eq (owns_whole (c : Thread nD τ) cc0_stg3_0 fullShare (outAt I c)))
    iapply (join_rows c outM (fun b => acc I 3 c b))
    isplitl [Ho0]; · iexact Ho0
    iexact Ho1
  isplitr [HO]
  · isplitl [Hkl]; · iexists _; iexact Hkl
    isplitl [Hvl]; · iexists _; iexact Hvl
    isplitl [Hs0 Hs1]
    · ihave Hs := (join_rows c sbM (fun b => snd I 2 c b)) $$ [Hs0 Hs1]
      · isplitl [Hs0]; · iexact Hs0
        iexact Hs1
      ihave Hs := (Entails.of_eq (owns_whole (c : Thread nD τ) cc0_scratch3 fullShare _)) $$ Hs
      iexists _; iexact Hs
    · iapply (join_land c (fun r b => inc I r.val c b))
      isplitl [L00]; · iexact L00
      isplitl [L01]; · iexact L01
      isplitl [L10]; · iexact L10
      isplitl [L11]; · iexact L11
      isplitl [L20]; · iexact L20
      iexact L21
  iexact HO

end Cert.KernelIdeal.Butterfly

end
-- ==== Proof.Deal.lean ====
/-
  DEALING the exchange's resources out: what the launch makes for each device's own cells goes to whichever device performs
  the duty, and the credits every device starts with are read off what all devices together owe.
-/
module

public import proofs.«01_k».proof.Proof.Body

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-- Two families conjoined side by side. -/
theorem zip {J : Type} [DecidableEq J] (S : Finset J) (Φ Ψ : J → sProp 𝕄) : iprop(bigSep S Φ ∗ bigSep S Ψ) ⊢ bigSep S fun i => iprop(Φ i ∗ Ψ i) :=
  Entails.of_eq (bigSep_sep' S Φ Ψ).symm
theorem unzip {J : Type} [DecidableEq J] (S : Finset J) (Φ Ψ : J → sProp 𝕄) : (bigSep S fun i => iprop(Φ i ∗ Ψ i)) ⊢ iprop(bigSep S Φ ∗ bigSep S Ψ) :=
  Entails.of_eq (bigSep_sep' S Φ Ψ)

/-! ## One device's fifteen own cells, conjoined -/

theorem own_eq (c : Dev nD) (Φ : GSem nD τ sig → sProp 𝕄) : (bigSep Finset.univ fun k : Fin 15 => Φ ((c : Thread nD τ), osem k))
    = iprop(Φ (exC c) ∗ Φ (cpC c 0) ∗ Φ (cpC c 1) ∗ Φ (sndC c 0 0) ∗ Φ (sndC c 0 1) ∗ Φ (sndC c 1 0) ∗ Φ (sndC c 1 1) ∗ Φ (sndC c 2 0) ∗ Φ (sndC c 2 1)
      ∗ Φ (rcvC c 0 0) ∗ Φ (rcvC c 0 1) ∗ Φ (rcvC c 1 0) ∗ Φ (rcvC c 1 1) ∗ Φ (rcvC c 2 0) ∗ Φ (rcvC c 2 1)) := by
  rw [bigSep_univ_eq_bigSepL [0, 1, 2, 3, 4, 5, 6, 7, 8, 9, 10, 11, 12, 13, 14] (by decide) (by decide)]; rfl

/-- … grouped as the body uses them. -/
theorem own_grouped (c : Dev nD) (Φ : GSem nD τ sig → sProp 𝕄) : (bigSep Finset.univ fun k : Fin 15 => Φ ((c : Thread nD τ), osem k))
    ⊢ iprop(Φ (exC c) ∗ (Φ (cpC c 0) ∗ Φ (cpC c 1)) ∗ (six fun r b => Φ (sndC c r b)) ∗ six fun r b => Φ (rcvC c r b)) := by
  rw [own_eq]
  unfold six
  iintro ⟨H0, H1, H2, H3, H4, H5, H6, H7, H8, H9, H10, H11, H12, H13, H14⟩
  isplitl [H0]; · iexact H0
  isplitl [H1 H2]
  · isplitl [H1]; · iexact H1
    iexact H2
  isplitl [H3 H4 H5 H6 H7 H8]
  · isplitl [H3]; · iexact H3
    isplitl [H4]; · iexact H4
    isplitl [H5]; · iexact H5
    isplitl [H6]; · iexact H6
    isplitl [H7]; · iexact H7
    iexact H8
  · isplitl [H9]; · iexact H9
    isplitl [H10]; · iexact H10
    isplitl [H11]; · iexact H11
    isplitl [H12]; · iexact H12
    isplitl [H13]; · iexact H13
    iexact H14
theorem own_ungrouped (c : Dev nD) (Φ : GSem nD τ sig → sProp 𝕄) :
    iprop(Φ (exC c) ∗ (Φ (cpC c 0) ∗ Φ (cpC c 1)) ∗ (six fun r b => Φ (sndC c r b)) ∗ six fun r b => Φ (rcvC c r b))
      ⊢ bigSep Finset.univ fun k : Fin 15 => Φ ((c : Thread nD τ), osem k) := by
  rw [own_eq]
  unfold six
  iintro ⟨H0, ⟨H1, H2⟩, ⟨H3, H4, H5, H6, H7, H8⟩, H9, H10, H11, H12, H13, H14⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## Before and after the region -/

/-- What device c holds of the exchange before its own cells are opened. -/
def shut (c : Dev nD) : sProp 𝕄 :=
  iprop(atPos ER (barC c) 0 ∅ 0 ∗ (bigSep Finset.univ fun k : Fin 15 => openTok ER ((c : Thread nD τ), osem k)) ∗ duties c)

def Tk (c : Dev nD) : sProp 𝕄 := iprop((∃ κ, recs I κ ∗ shut c) ∗ creds c)
def Xk (c : Dev nD) : sProp 𝕄 := iprop((∃ κ, recs I κ ∗ opened c ∗ duties c) ∗ creds c)

/-- Its own counters at zero open the cells. -/
theorem open_own (c : Dev nD) : iprop(Tk I c ∗ Pipeline.ownSems0 osem c ∗ levAts L lv) ⊢ (|={Set.univ}=> Xk I c : sProp 𝕄) := by
  unfold Tk Xk shut Pipeline.ownSems0
  iintro ⟨⟨⟨%κ, #HR, Hb, Ho, Hd⟩, Hc⟩, Hz, -⟩
  imod (show iprop(recs I κ ∗ bigSep Finset.univ fun k : Fin 15 => iprop(openTok ER ((c : Thread nD τ), osem k) ∗ semVal ((c : Thread nD τ), osem k) 0))
      ⊢ (|={Set.univ}=> bigSep Finset.univ fun k : Fin 15 => iprop(atPos ER ((c : Thread nD τ), osem k) 0 ∅ 0 ∗ reached ER ((c : Thread nD τ), osem k) 0) : sProp 𝕄) from
        (bigSep_with_persistent (R := recs I κ)
          (Ψ := fun k : Fin 15 => iprop(|={Set.univ}=> (atPos ER ((c : Thread nD τ), osem k) 0 ∅ 0 ∗ reached ER ((c : Thread nD τ), osem k) 0))) fun k _ => by
          iintro ⟨#HR, Ho, Hz⟩
          iapply (Rounds.cell_open ER (Rd I) (g := ((c : Thread nD τ), osem k)) (Set.mem_univ (κ ((c : Thread nD τ), osem k))))
          isplitr; · iapply (recs_inv I κ (mem_sc c k)); iexact HR
          isplitl [Ho] <;> iassumption).trans (bigSep_fupd _ _)) $$ [Ho Hz] with Hall
  · isplitr; · iexact HR
    iapply (zip _ _ _)
    isplitl [Ho] <;> iassumption
  ihave Hall := (unzip _ _ _) $$ Hall
  icases Hall with ⟨Ha, Hr⟩
  ihave Ha := (own_grouped c fun g => (atPos ER g 0 ∅ 0 : sProp 𝕄)) $$ Ha
  ihave Hr := (own_grouped c fun g => (reached ER g 0 : sProp 𝕄)) $$ Hr
  icases Ha with ⟨A1, A2, A3, A4⟩
  imodintro
  isplitr [Hc]
  · iexists κ
    isplitr; · iexact HR
    isplitr [Hd]
    · unfold opened
      isplitl [Hb]; · iexact Hb
      isplitl [A1]; · iexact A1
      isplitl [A2]; · iexact A2
      isplitl [A3]; · iexact A3
      isplitl [A4]; · iexact A4
      iexact Hr
    · iexact Hd
  · iexact Hc

theorem counters_own (c : Dev nD) : (counters c : sProp 𝕄) ⊢ iprop(semVal (barC c) 0 ∗ Pipeline.ownSems0 osem c) := by
  unfold counters Pipeline.ownSems0
  iintro ⟨Hb, H⟩
  isplitl [Hb]; · iexact Hb
  iapply (own_ungrouped c fun g => (semVal g 0 : sProp 𝕄)); iexact H

/-! ## The duties' tokens -/

/-- A device's twenty duties by the cell they are performed on: three at its barrier, three at its exit cell, one at each of
    the others. -/
def tsem (k : Fin 20) : SemLoc sig × Fin 3 :=
  if h : k.val < 3 then (barL, ⟨k.val, h⟩) else if h : k.val < 6 then (exL, ⟨k.val - 3, by omega⟩) else (osem ⟨k.val - 5, by have := k.isLt; omega⟩, 0)
theorem tsem_inj : Function.Injective tsem := by decide

/-- Which round's partner performs it (3: the device itself). -/
def who (k : Fin 20) : ℕ := if k.val < 6 then k.val % 3 else if k.val < 14 then 3 else (k.val - 14) / 2
def by' (k : Fin 20) : Dev nD ≃ Dev nD := if who k = 3 then Equiv.refl _ else swap (who k)

def allToks : Finset (GSem nD τ sig × ℕ × Fin 3) :=
  Finset.univ.map ⟨fun ck : Dev nD × Fin 20 => (((ck.1 : Thread nD τ), (tsem ck.2).1), 0, (tsem ck.2).2), fun _ _ h =>
    Prod.ext (congrArg (fun t : GSem nD τ sig × ℕ × Fin 3 => t.1.1.1) h)
      (tsem_inj (Prod.ext (congrArg (fun t : GSem nD τ sig × ℕ × Fin 3 => t.1.2) h) (congrArg (fun t : GSem nD τ sig × ℕ × Fin 3 => t.2.2) h)))⟩

theorem twenty (c : Dev nD) : (bigSep Finset.univ fun k : Fin 20 => (dutyTok ER ((by' k c : Thread nD τ), (tsem k).1) 0 (tsem k).2 : sProp 𝕄))
    = iprop(dutyTok ER (barC (pr 0 c)) 0 0 ∗ dutyTok ER (barC (pr 1 c)) 0 1 ∗ dutyTok ER (barC (pr 2 c)) 0 2
      ∗ dutyTok ER (exC (pr 0 c)) 0 0 ∗ dutyTok ER (exC (pr 1 c)) 0 1 ∗ dutyTok ER (exC (pr 2 c)) 0 2
      ∗ dutyTok ER (cpC c 0) 0 0 ∗ dutyTok ER (cpC c 1) 0 0 ∗ dutyTok ER (sndC c 0 0) 0 0 ∗ dutyTok ER (sndC c 0 1) 0 0 ∗ dutyTok ER (sndC c 1 0) 0 0
      ∗ dutyTok ER (sndC c 1 1) 0 0 ∗ dutyTok ER (sndC c 2 0) 0 0 ∗ dutyTok ER (sndC c 2 1) 0 0 ∗ dutyTok ER (rcvC (pr 0 c) 0 0) 0 0
      ∗ dutyTok ER (rcvC (pr 0 c) 0 1) 0 0 ∗ dutyTok ER (rcvC (pr 1 c) 1 0) 0 0 ∗ dutyTok ER (rcvC (pr 1 c) 1 1) 0 0 ∗ dutyTok ER (rcvC (pr 2 c) 2 0) 0 0
      ∗ dutyTok ER (rcvC (pr 2 c) 2 1) 0 0) := by
  rw [bigSep_univ_eq_bigSepL [0, 1, 2, 3, 4, 5, 6, 7, 8, 9, 10, 11, 12, 13, 14, 15, 16, 17, 18, 19] (by decide) (by decide)]; rfl

theorem deal_one (c : Dev nD) : (bigSep Finset.univ fun k : Fin 20 => (dutyTok ER ((by' k c : Thread nD τ), (tsem k).1) 0 (tsem k).2 : sProp 𝕄)) ⊢ duties c := by
  rw [twenty]
  unfold duties six
  iintro ⟨H0, H1, H2, H3, H4, H5, H6, H7, H8, H9, H10, H11, H12, H13, H14, H15, H16, H17, H18, H19⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7]
  · isplitl [H6]; · iexact H6
    iexact H7
  isplitl [H8 H9 H10 H11 H12 H13]
  · isplitl [H8]; · iexact H8
    isplitl [H9]; · iexact H9
    isplitl [H10]; · iexact H10
    isplitl [H11]; · iexact H11
    isplitl [H12]; · iexact H12
    iexact H13
  · isplitl [H14]; · iexact H14
    isplitl [H15]; · iexact H15
    isplitl [H16]; · iexact H16
    isplitl [H17]; · iexact H17
    isplitl [H18]; · iexact H18
    iexact H19

/-- Every token to the device that performs the duty. -/
theorem deal : bigSep allToks (fun x => (dutyTok ER x.1 x.2.1 x.2.2 : sProp 𝕄)) ⊢ bigSep Finset.univ fun c : Dev nD => duties c := by
  unfold allToks
  rw [bigSep_map, bigSep_univ_equiv (⟨fun ck => (by' ck.2 ck.1, ck.2), fun ck => ((by' ck.2).symm ck.1, ck.2),
    fun ck => by simp, fun ck => by simp⟩ : Dev nD × Fin 20 ≃ Dev nD × Fin 20), bigSep_univ_prod]
  exact bigSep_mono fun c _ => deal_one c

/-! ## The launch credits -/

/-- What all devices together owe one cell with k payments to go: each payment on its semaphore, once. -/
theorem owed_sum (c : Dev nD) (sm : SemLoc sig) (k : ℕ) :
    (∑ d : Dev nD, ow d k ((c : Thread nD τ), sm) ()) = ∑ i ∈ Finset.range k, if payS i = sm then payN i else 0 := by
  induction k with
  | zero => simp [ow]
  | succ k ih =>
    rw [Finset.sum_range_succ, ← ih]
    simp only [ow_succ, Pi.add_apply, Finsupp.add_apply, Finset.sum_add_distrib, tallyAt_apply]
    congr 1
    rw [Finset.sum_eq_single (pr (payR k) c)]
    · rw [pr_pr]
      by_cases h : payS k = sm
      · rw [if_pos h, if_pos ⟨by rw [h], trivial⟩]
      · rw [if_neg h, if_neg fun e => h (congrArg Prod.snd e.1).symm]
    · intro d _ hd
      rw [if_neg]
      rintro ⟨e, -⟩
      refine hd ?_
      have := congrArg (fun g : GSem nD τ sig => g.1.1) e
      rw [show c = pr (payR k) d from this, pr_pr]
    · intro h; exact absurd (Finset.mem_univ _) h

def O₀ (c : Dev nD) : CellTallies nD τ sig Unit := ow c 12

/-- The cells a device starts with credit on. -/
def csem (k : Fin 8) : SemLoc sig := if h : k.val = 0 then barL else if h : k.val = 1 then exL else .dma ⟨10 + k.val, by have := k.isLt; show _ < 18; omega⟩
theorem csem_inj : Function.Injective csem := by decide
def cAmt (k : Fin 8) : ℕ := if k.val < 2 then 3 else Ns

theorem payS_csem : ∀ (k : Fin 8) (i : Fin 12), payS i = csem k ↔ (if i.val ≤ 2 then k = 1 else if i.val ≤ 8 then k.val = 10 - i.val else k = 0) := by decide

theorem launch_credit (c : Dev nD) (k : Fin 8) :
    tallyOn ((c : Thread nD τ), csem k) (launchCredit (Pipeline.owing O₀) 0 ((c : Thread nD τ), csem k))
      = (tallyAt ((c : Thread nD τ), csem k) () (cAmt k) : CellTallies nD τ sig Unit) := by
  unfold tallyAt; refine congrArg _ (Finsupp.ext fun u => ?_); cases u
  rw [Pipeline.launchCredit_owing, Finsupp.single_eq_same]
  unfold O₀
  rw [owed_sum, Finset.sum_range]
  simp only [payS_csem, Fin.sum_univ_succ]
  fin_cases k <;> simp [payN, payS, amountAt, cAmt, rcvD]

theorem creds_intro (c : Dev nD) : (Pipeline.launchCred O₀ c : sProp 𝕄) ⊢ creds c := by
  unfold Pipeline.launchCred
  refine (bigSep_subset (Finset.subset_univ (Finset.univ.map ⟨csem, csem_inj⟩))).trans ?_
  rw [bigSep_map]
  change bigSep _ (fun k : Fin 8 => (cred (tallyOn ((c : Thread nD τ), csem k) (launchCredit (Pipeline.owing O₀) 0 ((c : Thread nD τ), csem k))) : sProp 𝕄)) ⊢ _
  rw [show (fun k : Fin 8 => (cred (tallyOn ((c : Thread nD τ), csem k) (launchCredit (Pipeline.owing O₀) 0 ((c : Thread nD τ), csem k))) : sProp 𝕄))
    = fun k => cred (tallyAt ((c : Thread nD τ), csem k) () (cAmt k)) from funext fun k => by rw [launch_credit]]
  rw [bigSep_univ_eq_bigSepL [0, 1, 2, 3, 4, 5, 6, 7] (by decide) (by decide)]
  exact BI.Entails.refl _

end Cert.KernelIdeal.Butterfly

end
-- ==== Proof.Region.lean ====
/-
  THE KERNEL'S REGION of @main: the two transposes before it, what its windows stage, and its record, entered with every
  device owing its twelve payments and left with nothing owed and the barrier's counter at zero.
-/
module

public import proofs.«01_k».proof.Proof.Deal
public import proofs.«01_k».proof.Proof.Gen.KernelIdeal.Frame
public import Idealize.ShloMosaic.Lib.Pipeline.RegionTalk
public import Idealize.ShloMosaic.Lib.Pipeline.ValueKit

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The buffers no region scopes -/

def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- Those the windows do not stage: the keys and values, as given and transposed. -/
def others : Finset (DevRef τ sig) := bufs \ Pipeline.arrRefs (τ := τ) spec0
/-- Those the body reads itself. -/
def readRefs : Finset (DevRef τ sig) := {Proc.devRef .tc main_v1, Proc.devRef .tc main_v2}

theorem readRefs_sub : readRefs ⊆ others := by decide
theorem arrRefs_sub : Pipeline.arrRefs (τ := τ) spec0 ⊆ bufs := by decide

theorem read_held (c : Dev nD) (W : Valuation τ sig (Elt F)) :
    (StableHlo.held (c : Thread nD τ) readRefs W : sProp 𝕄) = iprop(pt c main_v1 (W main_v1) ∗ pt c main_v2 (W main_v2)) := by
  unfold StableHlo.held
  rw [bigSep_eq_bigSepL_of_eq [Proc.devRef .tc main_v1, Proc.devRef .tc main_v2] (by decide) (by decide)]
  rfl

/-! ## Contents at the launch, after the transposes, and after the kernel -/

abbrev V₀ (c : Dev nD) : Valuation τ sig (Elt F) := fun b => m (c, b)
abbrev V₁ (c : Dev nD) : Valuation τ sig (Elt F) := StableHlo.after hostOps0 (V₀ m c)

/-- What the kernel reads. -/
def ins : Ins F where
  x c := m ((c : Thread nD τ).loc main_arg0)
  wq c := m ((c : Thread nD τ).loc main_arg1)
  wo c := m ((c : Thread nD τ).loc main_arg4)
  kt c := V₁ m c main_v1
  vt c := V₁ m c main_v2

def V₂ (c : Dev nD) : Valuation τ sig (Elt F) := Function.update (V₁ m c) (Proc.devRef .tc main_v3) (outAt (ins m) c)

theorem V₂_of_ne (c : Dev nD) {b : DevRef τ sig} (h : b ≠ Proc.devRef .tc main_v3) : V₂ m c b = V₁ m c b := Function.update_of_ne h ..
theorem V₂_res (c : Dev nD) : V₂ m c main_v3 = outAt (ins m) c := Function.update_self ..

/-! ## The windows -/

/-- The kernel's invariant before its one point, and after it. -/
def before (c : Dev nD) : sProp 𝕄 :=
  iprop(Xk (ins m) c ∗ (pt c main_v1 ((ins m).kt c) ∗ pt c main_v2 ((ins m).vt c)) ∗ scratch c ∗ ∃ r, prngReg c r)
def after (c : Dev nD) : sProp 𝕄 :=
  iprop(counters c ∗ (pt c main_v1 ((ins m).kt c) ∗ pt c main_v2 ((ins m).vt c)) ∗ scratch c ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => (ins m).x c
    | ⟨1, _⟩ => (ins m).wq c
    | ⟨2, _⟩ => (ins m).wo c
    | ⟨3, _⟩ => outAt (ins m) c
  Φ t := match t with
    | ⟨0, _⟩ => before m c
    | ⟨_ + 1, _⟩ => after m c
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- A fetched window holds its array. -/
theorem found_x (c : Dev nD) (d) : (dat m c).before (0 : Fin 4) t0_0 d = (ins m).x c := by
  unfold Dat.before; rw [if_pos (fetch0_0 _)]
  funext j
  exact (congrFun (V_main_arg0 m c) _).trans (congrArg (m ((c : Thread nD τ).loc main_arg0))
    (funext fun a => Fin.ext (Pipeline.Window.rect_emb_val_of_index_zero (cfg0.win (0 : Fin 4)) t0_0 a rfl _)))
theorem found_wq (c : Dev nD) (d) : (dat m c).before (1 : Fin 4) t0_0 d = (ins m).wq c := by
  unfold Dat.before; rw [if_pos (fetch0_1 _)]
  funext j
  exact (congrFun (V_main_arg1 m c) _).trans (congrArg (m ((c : Thread nD τ).loc main_arg1))
    (funext fun a => Fin.ext (Pipeline.Window.rect_emb_val_of_index_zero (cfg0.win (1 : Fin 4)) t0_0 a rfl _)))
theorem found_wo (c : Dev nD) (d) : (dat m c).before (2 : Fin 4) t0_0 d = (ins m).wo c := by
  unfold Dat.before; rw [if_pos (fetch0_2 _)]
  funext j
  exact (congrFun (V_main_arg4 m c) _).trans (congrArg (m ((c : Thread nD τ).loc main_arg4))
    (funext fun a => Fin.ext (Pipeline.Window.rect_emb_val_of_index_zero (cfg0.win (2 : Fin 4)) t0_0 a rfl _)))

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

theorem stg_intro (c : Dev nD) (b : Ref sig .tc) (X : b.ty.Contents (Elt F)) : (pt c b X : sProp 𝕄) ⊢ owns (c : Thread nD τ) (Memref.whole b) fullShare X := by
  rw [owns_whole]; iintro H; iexists X; isplitr; · ipureintro; rfl
  iexact H
theorem stg_elim (c : Dev nD) (b : Ref sig .tc) (X : b.ty.Contents (Elt F)) : (owns (c : Thread nD τ) (Memref.whole b) fullShare X : sProp 𝕄) ⊢ pt c b X := by
  rw [owns_whole]; iintro ⟨%f, %h, H⟩; subst h; iexact H

theorem owed_first (c : Dev nD) : (dat m c).owed t0_0.castSucc = O₀ c := rfl
theorem owed_last (c : Dev nD) : (dat m c).owed t0_0.succ = 0 := rfl

/-- The body's obligation. -/
theorem obligation (c : Dev nD) : BodyObligation (dat m c) (defs₀ (F := F)) 𝒱₀ () Set.univ := fun t => by
  rw [fin_N0 t, bigSep_W0, bigSep_W0]
  rw [show (dat m c).Φ t0_0.castSucc = before m c from rfl, show (dat m c).Φ t0_0.succ = after m c from rfl]
  unfold Dat.owesAt Pipeline.owesWithin
  rw [owed_first, owed_last]
  show iprop(before m c ∗ (∃ W, ⌜_⌝ ∗ owes (c : Thread nD τ) (O₀ c) W)
      ∗ (∃ d, owns (c : Thread nD τ) (Memref.whole cc0_stg0_0) fullShare ((dat m c).before (0 : Fin 4) t0_0 d))
      ∗ (∃ d, owns (c : Thread nD τ) (Memref.whole cc0_stg1_0) fullShare ((dat m c).before (1 : Fin 4) t0_0 d))
      ∗ (∃ d, owns (c : Thread nD τ) (Memref.whole cc0_stg2_0) fullShare ((dat m c).before (2 : Fin 4) t0_0 d))
      ∗ (∃ d, owns (c : Thread nD τ) (Memref.whole cc0_stg3_0) fullShare ((dat m c).before (3 : Fin 4) t0_0 d)))
    ⊢ wpc c (bodyAt0 (F := F) t0_0) (fun _ => iprop(after m c ∗ (∃ W, ⌜_⌝ ∗ owes (c : Thread nD τ) 0 W)
      ∗ owns (c : Thread nD τ) (Memref.whole cc0_stg0_0) fullShare ((ins m).x c)
      ∗ owns (c : Thread nD τ) (Memref.whole cc0_stg1_0) fullShare ((ins m).wq c)
      ∗ owns (c : Thread nD τ) (Memref.whole cc0_stg2_0) fullShare ((ins m).wo c)
      ∗ owns (c : Thread nD τ) (Memref.whole cc0_stg3_0) fullShare (outAt (ins m) c)))
  unfold before after Xk
  iintro ⟨⟨⟨⟨%κ, HR, Hop, Hd⟩, Hc⟩, ⟨Hk, Hv⟩, Hs, Hp⟩, ⟨%W, -, HO⟩, ⟨%d0, H0⟩, ⟨%d1, H1⟩, ⟨%d2, H2⟩, ⟨%d3, H3⟩⟩
  iapply (body_run (ins m) κ c _)
  unfold bodyPre bodyPost ends owe
  isplitr [Hp]
  · isplitl [HR]; · iexact HR
    isplitl [Hop]; · iexact Hop
    isplitl [Hd]; · iexact Hd
    isplitl [Hc]; · iexact Hc
    isplitl [H0 H1 H2 Hk Hv]
    · isplitl [H0]; · iapply (stg_elim c cc0_stg0_0 _); rw [← found_x m c d0]; iexact H0
      isplitl [H1]; · iapply (stg_elim c cc0_stg1_0 _); rw [← found_wq m c d1]; iexact H1
      isplitl [H2]; · iapply (stg_elim c cc0_stg2_0 _); rw [← found_wo m c d2]; iexact H2
      isplitl [Hk] <;> iassumption
    isplitl [H3]; · iexists _; iapply (stg_elim c cc0_stg3_0 _); iexact H3
    isplitl [Hs]; · iexact Hs
    iexists W; iexact HO
  iintro ⟨Hcnt, ⟨H0, H1, H2, Hk, Hv⟩, H3, Hs, ⟨%W', HO⟩⟩
  isplitl [Hcnt Hk Hv Hs Hp]
  · isplitl [Hcnt]; · iexact Hcnt
    isplitl [Hk Hv]; · isplitl [Hk] <;> iassumption
    isplitl [Hs] <;> iassumption
  isplitl [HO]
  · iexists W'; isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  iapply (stg_intro c cc0_stg3_0 _); iexact H3

/-! ## The record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Every payment goes to a level above the staging's. -/
theorem owed_above (c : Dev nD) (t : Fin ((Pipeline.pin (pcfgs (F := F)) adm 0).N + 1)) (g : GSem nD τ sig) (i : Unit)
    (h : 0 < (pdats m 0 c).owed t g i) : i ∈ L g ∧ 0 < lv g i := by
  rcases t with ⟨_ | _, _⟩
  · obtain ⟨k, hk, rfl⟩ := ow_pos (show 0 < ow c 12 g i from h)
    refine ⟨by rw [L_tc]; exact Finset.mem_singleton_self _, ?_⟩
    exact (by decide : ∀ k : Fin 12, 0 < lvl (payS k)) ⟨k, hk⟩
  · exact absurd h (Nat.lt_irrefl 0)

theorem share_full (c : Dev nD) (w : Fin cfg0.W) : (dat m c).share w = fullShare := by unfold Dat.share; split <;> rfl

theorem enter (c : Dev nD) : iprop(Pipeline.scopedRest (Pipeline.pin (pcfgs (F := F)) adm 0).spec c ∗ (∃ r, prngReg c r)
    ∗ StableHlo.held (c.tc : Thread nD τ) readRefs (V₁ m c) ∗ Xk (ins m) c) ⊢ (pdats m 0 c).Φ 0 := by
  rw [show (pdats m 0 c).Φ 0 = before m c from rfl, read_held,
    show (Pipeline.scopedRest (Pipeline.pin (pcfgs (F := F)) adm 0).spec c : sProp 𝕄) = scratch c from scopedRest0_eq c]
  unfold before
  iintro ⟨Hs, Hp, Hkv, HX⟩
  isplitl [HX]; · iexact HX
  isplitl [Hkv]; · iexact Hkv
  isplitl [Hs] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) readRefs (V₂ m c) ∗ Pipeline.ownSems0 osem c ∗ semVal (barC c) 0) := by
  rw [show (pdats m 0 c).Φ (Fin.last _) = after m c from rfl, read_held,
    show (Pipeline.scopedRest (Pipeline.pin (pcfgs (F := F)) adm 0).spec c : sProp 𝕄) = scratch c from scopedRest0_eq c]
  unfold after
  iintro ⟨Hc, ⟨Hk, Hv⟩, Hs, Hp⟩
  ihave Hc := (counters_own (F := F) c) $$ Hc
  icases Hc with ⟨Hb, Ho⟩
  isplitl [Hs]; · iexact Hs
  isplitl [Hp]; · iexact Hp
  isplitl [Hk Hv]
  · rw [V₂_of_ne m c (by decide : (Proc.devRef .tc main_v1 : DevRef τ sig) ≠ Proc.devRef .tc main_v3),
      V₂_of_ne m c (by decide : (Proc.devRef .tc main_v2 : DevRef τ sig) ≠ Proc.devRef .tc main_v3)]
    isplitl [Hk]; · iexact Hk
    iexact Hv
  isplitl [Ho] <;> iassumption

/-- The windows' arrays after the run: the inputs as they were, the result at the running sums. -/
theorem arrays_after (c : Dev nD) (w : Fin 4) : (dat m c).arrAt w cfg0.N = V₂ m c (Proc.devRef .tc (Pipeline.arrRef spec0 w)) := by
  fin_cases w
  · exact ((dat m c).arrAt_in (0 : Fin 4) rfl _).trans (V₂_of_ne m c (b := Proc.devRef .tc main_arg0) (by decide)).symm
  · exact ((dat m c).arrAt_in (1 : Fin 4) rfl _).trans (V₂_of_ne m c (b := Proc.devRef .tc main_arg1) (by decide)).symm
  · exact ((dat m c).arrAt_in (2 : Fin 4) rfl _).trans (V₂_of_ne m c (b := Proc.devRef .tc main_arg4) (by decide)).symm
  · refine Eq.trans ?_ (V₂_res m c).symm
    exact (dat m c).arrAt_eq_of_after_last (3 : Fin 4) t0_0 (by decide +kernel) _ fun j => rfl

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    readRefs others readRefs_sub kit rfl (fun c => (obligation m c).loose)
    (fun _ => 0) O₀ (fun c => (zero_add _).symm) (fun _ => rfl) (fun _ => rfl) (fun c w => share_full m c w)
    (V₁ m) (V₂ m) (fun c b hb => V₂_of_ne m c fun e => absurd (e ▸ hb) (by decide))
    (Tk (ins m)) (fun c => semVal (barC c) 0) (Xk (ins m)) (fun c => semVal (barC c) 0) (open_own (ins m)) (enter m) (leave m)
    (fun c => by iintro H; imodintro; iexact H)
    (fun _ => 0)
    ⟨fun c w s => by rw [L_tc]; exact Finset.mem_singleton_self _, fun c w s => by fin_cases w <;> fin_cases s <;> exact Nat.le_refl 0, fun c t g i h => owed_above m c t g i h⟩
    (fun _ => iprop(emp))
    (fun c w => rfl) (fun c w => arrays_after m c w)

theorem region_pre (c : Dev nD) :
    iprop(StableHlo.held (c : Thread nD τ) bufs (V₁ m c) ∗ Tk (ins m) c ∗ (∃ r, prngReg c r) ∗ ∃ W, owes (c : Thread nD τ) (O₀ c) W) ⊢ (region m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk (ins m) c ∗ ∃ Wd, owes (c : Thread nD τ) (0 + O₀ c) Wd)
  rw [zero_add, StableHlo.held_sub_split (c : Thread nD τ) arrRefs_sub (V₁ m c)]
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem region_post (c : Dev nD) :
    (region m).post c ⊢ iprop((StableHlo.held (c : Thread nD τ) bufs (V₂ m c) ∗ semVal (barC c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ semVal (barC c) 0 ∗ ∃ Wd, owes (c : Thread nD τ) (0 : CellTallies nD τ sig Unit) Wd) ⊢ _
  rw [StableHlo.held_sub_split (c : Thread nD τ) arrRefs_sub (V₂ m c)]
  iintro ⟨Ha, -, ⟨Ho, -⟩, Hb, HO⟩
  isplitr [HO]
  · isplitl [Ha Ho]
    · isplitl [Ha]; · iexact Ha
      iexact Ho
    iexact Hb
  iexact HO

end Cert.KernelIdeal.Butterfly

end
-- ==== Proof.Launch.lean ====
/-
  THE RUN of @main on the eight devices, for any float values: it terminates, with every argument array as it was, the result
  array of every device at its running sums after three rounds, and every semaphore counter of the machine at zero.
-/
module

public import proofs.«01_k».proof.Proof.Region

@[expose] public section

noncomputable section

namespace Cert.KernelIdeal.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-! ## @main as its two segments -/

theorem ops_sub : ∀ op ∈ (hostOps0 : List (HloOp τ sig (Elt F))), op.bufs ⊆ bufs := fun op h => by
  simp only [List.mem_cons, List.mem_nil_iff, or_false] at h
  rcases h with rfl | rfl
  · rw [StableHlo.unary_bufs]; decide
  · rw [StableHlo.unary_bufs]; decide
theorem ops_fresh : ∀ op ∈ (hostOps0 : List (HloOp τ sig (Elt F))), op.fresh = ∅ := fun op h => by
  simp only [List.mem_cons, List.mem_nil_iff, or_false] at h
  rcases h with rfl | rfl <;> rfl

/-- What rides beside the buffers up to the region. -/
def beside (c : Dev nD) : sProp 𝕄 := iprop(Tk (ins m) c ∗ (∃ r, prngReg c r) ∗ ∃ W, owes (c : Thread nD τ) (O₀ c) W)

def host : Pipeline.HostSeg (Ix := Unit) (Name := ℕ) (U := UU) (Lvl := ℕ) (pcfgs (F := F)) defs₀ 𝒱₀ L lv :=
  Pipeline.HostSeg.ofOps _ _ _ _ _ bufs hostOps0 ops_sub ops_fresh (V₀ m) (beside m)

def segs : List (Pipeline.Seg (pcfgs (F := F)) adm (pdats m) () defs₀ 𝒱₀ L lv) := [.host (host m), .region (region m)]

abbrev T₀ (c : Dev nD) : sProp 𝕄 := iprop(StableHlo.held (c : Thread nD τ) bufs (V₀ m c) ∗ beside m c)
abbrev Tₙ (c : Dev nD) : sProp 𝕄 := iprop(StableHlo.held (c : Thread nD τ) bufs (V₂ m c) ∗ semVal (barC c) 0)

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def u₀ : UU :=
  (initOf (Pipeline.cells (Pipeline.pin (pcfgs (F := F)) adm) cellOf_inj) (Pipeline.launchToks (Pipeline.pin (pcfgs (F := F)) adm) cellOf_inj),
    launchOf barCells scCells allToks)

/-- All of a resource on device 0. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells scCells allToks)))

theorem unscopedSems_eq (c : Dev nD) : (unscopedSems0 c : sProp 𝕄) = semVal (barC c) 0 := by
  unfold unscopedSems0
  rw [show (Finset.univ.filter fun sm : SemLoc sig => ¬ sm.isScoped .tc) = {barL} from by decide, BI.bigSep_singleton]

/-- What of a device's launch holdings is not the exchange's. -/
def bundle (c : Dev nD) : sProp 𝕄 :=
  iprop(StableHlo.held (c : Thread nD τ) bufs (V₀ m c) ∗ creds c ∗ owes (c : Thread nD τ) (O₀ c) ∅ ∗ ∃ r, prngReg c r)

theorem start_intro (κ : GSem nD τ sig → ℕ) (c : Dev nD) : iprop(recs (ins m) κ ∗ (shut c ∗ bundle m c)) ⊢ T₀ m c := by
  unfold bundle T₀ beside Tk
  iintro ⟨#HR, Hs, Hh, Hc, HO, Hp⟩
  isplitl [Hh]; · iexact Hh
  isplitl [Hs Hc]
  · isplitl [Hs]
    · iexists κ; isplitr; · iexact HR
      iexact Hs
    iexact Hc
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 15 => openTok ER ((c : Thread nD τ), osem k)) :=
    Entails.of_eq (by rw [bigSep_map, bigSep_univ_prod]; rfl)
  iintro ⟨H, #Hlev⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H := (unzip _ _ _) $$ H; icases H with ⟨HB, H⟩
  ihave H := (unzip _ _ _) $$ H; icases H with ⟨Hv, HG⟩
  ihave Hu := (show bigSep Finset.univ (G (F := F)) ⊢ BI.own (ER (launchOf barCells scCells allToks)) from
    Entails.of_eq (bigSep_onZero (F := F) (BI.own (ER (launchOf barCells scCells allToks))))) $$ HG
  imod (Rounds.fund_launch ER (Rd (ins m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (ins m) κ) (Φ := fun c => iprop(shut c ∗ bundle m c)) fun c _ => start_intro m κ c)
  isplitr
  · unfold recs
    isplitr; · iexact Hinv
    isplitr; · iexact Hr
    iexact Hlev
  iapply (zip _ _ _)
  isplitr [HB]
  · unfold shut
    iapply (zip _ _ _); isplitl [Hat]; · iapply hat $$ Hat
    iapply (zip _ _ _); isplitl [Hopen]; · iapply hopen $$ Hopen
    iapply (deal (F := F)); iexact Htok
  · iexact HB

/-! ## The run -/

theorem unscoped_eq : ∀ sm : SemLoc sig, sm.isScoped .tc = false → sm = barL := by decide

/-- The named arrays at their final contents. -/
theorem final_held (c : Dev nD) : (StableHlo.held (c : Thread nD τ) bufs (V₂ m c) : sProp 𝕄)
    = iprop(pt c main_arg0 (V₂ m c main_arg0) ∗ pt c main_arg1 (V₂ m c main_arg1) ∗ pt c main_arg2 (V₂ m c main_arg2) ∗ pt c main_arg3 (V₂ m c main_arg3)
      ∗ pt c main_arg4 (V₂ m c main_arg4) ∗ pt c main_v1 (V₂ m c main_v1) ∗ pt c main_v2 (V₂ m c main_v2) ∗ pt c main_v3 (V₂ m c main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-- What the claims read of a final state on device c. -/
def Final (c : Dev nD) (s : (ℓ : Loc nD τ sig) → Buf (Elt F) ℓ) : Prop :=
  (s ((c : Thread nD τ).loc main_arg0) = m ((c : Thread nD τ).loc main_arg0) ∧ s ((c : Thread nD τ).loc main_arg1) = m ((c : Thread nD τ).loc main_arg1)
    ∧ s ((c : Thread nD τ).loc main_arg2) = m ((c : Thread nD τ).loc main_arg2) ∧ s ((c : Thread nD τ).loc main_arg3) = m ((c : Thread nD τ).loc main_arg3)
    ∧ s ((c : Thread nD τ).loc main_arg4) = m ((c : Thread nD τ).loc main_arg4))
  ∧ s ((c : Thread nD τ).loc main_v3) = outAt (ins m) c

theorem V₂_arg0 (c : Dev nD) : V₂ m c main_arg0 = m ((c : Thread nD τ).loc main_arg0) := (V₂_of_ne m c (by decide)).trans (V_main_arg0 m c)
theorem V₂_arg1 (c : Dev nD) : V₂ m c main_arg1 = m ((c : Thread nD τ).loc main_arg1) := (V₂_of_ne m c (by decide)).trans (V_main_arg1 m c)
theorem V₂_arg2 (c : Dev nD) : V₂ m c main_arg2 = m ((c : Thread nD τ).loc main_arg2) := (V₂_of_ne m c (by decide)).trans (V_main_arg2 m c)
theorem V₂_arg3 (c : Dev nD) : V₂ m c main_arg3 = m ((c : Thread nD τ).loc main_arg3) := (V₂_of_ne m c (by decide)).trans (V_main_arg3 m c)
theorem V₂_arg4 (c : Dev nD) : V₂ m c main_arg4 = m ((c : Thread nD τ).loc main_arg4) := (V₂_of_ne m c (by decide)).trans (V_main_arg4 m c)

set_option backward.isDefEq.respectTransparency.types false in
theorem run_main : θ_run defs (onTc (τ := τ) (main (F := F))) ⟨m, fun _ => 0, ρ⟩
    (fun r => (∀ c : Dev nD, Final m c r.2.mem) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := ⟨fun c => .rfl, fun c => region_pre m c, fun c => region_post m c⟩)
    (hinit := init m ρ)
    (QY := fun c s => Final m c s.mem ∧ s.sem (barC c) = 0)
    (hfin := fun c s' => by
      dsimp only [Tₙ]; rw [final_held]
      iintro ⟨⟨⟨H0, H1, H2, H3, H4, -, -, Hv⟩, Hb⟩, HSI⟩
      icombine HSI H0 gives %h0
      icombine HSI H1 gives %h1
      icombine HSI H2 gives %h2
      icombine HSI H3 gives %h3
      icombine HSI H4 gives %h4
      icombine HSI Hv gives %hv
      icombine HSI Hb gives %hb
      imodintro
      isplitr
      · ipureintro
        exact ⟨⟨⟨(Buf.eq_of_forall_mem_univ h0).trans (V₂_arg0 m c), (Buf.eq_of_forall_mem_univ h1).trans (V₂_arg1 m c),
          (Buf.eq_of_forall_mem_univ h2).trans (V₂_arg2 m c), (Buf.eq_of_forall_mem_univ h3).trans (V₂_arg3 m c),
          (Buf.eq_of_forall_mem_univ h4).trans (V₂_arg4 m c)⟩, (Buf.eq_of_forall_mem_univ hv).trans (V₂_res m c)⟩, by simpa using hb⟩
      iexact HSI)
    (hQ := fun s h hs => ⟨fun c => (h c).1,
      sem_eq_zero hs fun c sm hsm => by
        obtain rfl := unscoped_eq sm hsm
        exact (h c).2⟩)

end Cert.KernelIdeal.Butterfly

end
-- ==== Proof.Frames.lean ====
/-
  The frames of the three programs. The run of KernelIdeal is proved for any float values, and Kernel has the same text, so both
  kernels' frames are that one run; the reference's is its generated run.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem Cert.KernelIdeal.Butterfly

/-- The run read at the arguments and the counters alone. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (run_main m ρ)

theorem frame_ideal : Cert.quiescent_KernelIdeal (hKernelIdeal := Cert.KernelIdeal.Gen.facts) := fun m ρ _ => run_args (F := Ideal) m ρ

/-- The two programs' bodies are one text. -/
theorem defs_same {F : FTy → Type} [FloatOps F] : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) (funext fun l => funext fun a => ?_)
  match l, a with
  | 0, (t, s) => rfl

set_option maxRecDepth 8192 in
set_option backward.isDefEq.respectTransparency.types false in
theorem frame_kernel : Cert.quiescent_Kernel (hKernel := Cert.Kernel.Gen.facts) := by
  intro m ρ _
  have h := run_args (F := Bits) m ρ
  unfold Cert.KernelIdeal.defs at h
  rw [← defs_same] at h
  exact h

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Attention.lean ====
/-
  The mathematics both programs compute, over the extended reals: the attention of one head under the block mask, and the output
  projection summed over all heads.
-/
module

public import Idealize.ShloMosaic.Lib.Pointwise

@[expose] public section

noncomputable section

namespace Cert.Attention

open Idealize.ShloMosaic

/-- The block of sixty-four a position lies in, as a word. -/
def blk (i : Fin 128) : BitVec 32 := BitVec.ofNat 32 (i.val / 64)
/-- Position i may look at position j: j's block is not after i's. -/
def keep (i j : Fin 128) : BitVec 1 := IntOp.cmpi .sle (blk j) (blk i)

/-- The masked, scaled score of query i at key j. -/
def score (q : Fin 128 → Fin 64 → EReal) (k : Fin 64 → Fin 128 → EReal) (i j : Fin 128) : EReal :=
  Scalar.select (keep i j) ((∑ d, q i d * k d j) * Ideal.ofBits .f32 0x3E000000#32) (Ideal.ofBits .f32 0xCE6E6B28#32)
/-- Its exponential, less the greatest score of its row. -/
def expd (q : Fin 128 → Fin 64 → EReal) (k : Fin 64 → Fin 128 → EReal) (i j : Fin 128) : EReal :=
  Ideal.exp (score q k i j - Finset.univ.fold max (Ideal.ofBits .f32 0xFF800000#32) fun l => score q k i l)
/-- One head's attention: the values weighted by each row's softmax. -/
def attend (q : Fin 128 → Fin 64 → EReal) (k v : Fin 64 → Fin 128 → EReal) (i : Fin 128) (d : Fin 64) : EReal :=
  ∑ j, Ideal.div (expd q k i j) (∑ l, expd q k i l) * v d j

/-- The column of the query weights, and the row of the output weights, of head H and position d. -/
def col (H : Fin 32) (d : Fin 64) : Fin 2048 := ⟨64 * H.val + d.val, by omega⟩

variable (x : (⟨3, ![2, 128, 512]⟩ : Shape).Idx → EReal) (Wq : (⟨2, ![512, 2048]⟩ : Shape).Idx → EReal)
  (K V : (⟨4, ![2, 128, 32, 64]⟩ : Shape).Idx → EReal) (Wo : (⟨2, ![2048, 512]⟩ : Shape).Idx → EReal)

/-- The queries of head H on row b. -/
def query (b : Fin 2) (H : Fin 32) (i : Fin 128) (d : Fin 64) : EReal := ∑ m : Fin 512, x (ix3 b i m) * Wq (ix2 m (col H d))
/-- The attention of head H on row b. -/
def head (b : Fin 2) (H : Fin 32) : Fin 128 → Fin 64 → EReal :=
  attend (query x Wq b H) (fun d j => K (ix4 b j H d)) (fun d j => V (ix4 b j H d))
/-- Head H's part of the output projection. -/
def share (b : Fin 2) (i : Fin 128) (n : Fin 512) (H : Fin 32) : EReal := ∑ d : Fin 64, head x Wq K V b H i d * Wo (ix2 (col H d) n)
/-- The layer's output: all heads' parts. -/
def layer (b : Fin 2) (i : Fin 128) (n : Fin 512) : EReal := ∑ H : Fin 32, share x Wq K V Wo b i n H

/-- Head h of device c among all heads. -/
def mine (c : Fin 8) (h : Fin 4) : Fin 32 := ⟨4 * c.val + h.val, by omega⟩

/-- The heads, device by device. -/
theorem sum_heads (f : Fin 32 → EReal) : ∑ H, f H = ∑ c : Fin 8, ∑ h : Fin 4, f (mine c h) := by
  rw [← Fintype.sum_prod_type', ← Equiv.sum_comp (finProdFinEquiv (m := 8) (n := 4))]
  refine Finset.sum_congr rfl fun p _ => congrArg f (Fin.ext ?_)
  simp only [finProdFinEquiv_apply_val, mine]; omega

/-- A device's columns, head by head. -/
theorem sum_own_cols (f : Fin 256 → EReal) : ∑ k, f k = ∑ h : Fin 4, ∑ d : Fin 64, f ⟨64 * h.val + d.val, by omega⟩ := by
  rw [← Fintype.sum_prod_type', ← Equiv.sum_comp (finProdFinEquiv (m := 4) (n := 64))]
  refine Finset.sum_congr rfl fun p _ => congrArg f (Fin.ext ?_)
  simp only [finProdFinEquiv_apply_val]; omega

/-- All columns, head by head. -/
theorem sum_cols (f : Fin 2048 → EReal) : ∑ k, f k = ∑ H : Fin 32, ∑ d : Fin 64, f (col H d) := by
  rw [← Fintype.sum_prod_type', ← Equiv.sum_comp (finProdFinEquiv (m := 32) (n := 64))]
  refine Finset.sum_congr rfl fun p _ => congrArg f (Fin.ext ?_)
  simp only [finProdFinEquiv_apply_val, col]; omega

end Cert.Attention

end
-- ==== Proof.Device.lean ====
/-
  What one device computes of its own, over the extended reals: at each entry, its four heads' parts of the output projection.
-/
module

public import Idealize.ShloMosaic.Lib.Pipeline.ValueKit.Geometry
public import proofs.«01_k».proof.Proof.Plan
public import proofs.«01_k».proof.Proof.Attention

@[expose] public section

set_option maxRecDepth 16384

noncomputable section

namespace Cert.KernelIdeal.Butterfly

open Cert.KernelIdeal Cert.KernelIdeal.Gen
open Idealize.ShloMosaic

section
variable {F : FTy → Type} [FloatOps F]

/-- The masked, scaled scores of one head, as the kernel writes them. -/
def kScore (q : FVec F S128x64 .bf16) (k : FVec F S64x128 .bf16) : FVec F S128x128 .f32 :=
  select msk (mulf (matmul dot_S128x64_S64x128_S128x128_1_0_0_1_n_n none q k (constant S128x128 .f32 0x00000000#32)) (broadcast S128x128 (Scalar.ofBits .f32 0x3E000000#32)))
    (broadcast S128x128 (Scalar.ofBits .f32 0xCE6E6B28#32))
/-- Their exponentials, less each row's greatest. -/
def kExp (s : FVec F S128x128 .f32) : FVec F S128x128 .f32 :=
  exp (subf s (broadcastTo S128x128 (shapeCast S128x1 (multiReduction .maximumf [1] S128 s 0xFF800000#32 reduces_S128x128_S128 (.inl rfl) rfl) shapeCasts_S128_S128x1) broadcasts_S128x1_S128x128))
/-- The values weighted by the normalised exponentials. -/
def kWeigh (e : FVec F S128x128 .f32) (v : FVec F S64x128 .bf16) : FVec F S128x64 .bf16 :=
  truncf .bf16 (matmul dot_S128x128_S64x128_S128x64_1_1_0_0_n_n none (truncf .bf16 (divf e (broadcastTo S128x128 (shapeCast S128x1
    (multiReduction .add [1] S128 e 0x00000000#32 reduces_S128x128_S128 (.inl rfl) rfl) shapeCasts_S128_S128x1) broadcasts_S128x1_S128x128)) bitsLt_bf16_f32) v
    (constant S128x64 .f32 0x00000000#32)) bitsLt_bf16_f32
/-- One head. -/
def kHead (q : FVec F S128x64 .bf16) (k v : FVec F S64x128 .bf16) : FVec F S128x64 .bf16 := kWeigh (kExp (kScore q k)) v

/-- Head h's columns of the queries. -/
def qPart (Q : FVec F S128x256 .bf16) : Fin 4 → FVec F S128x64 .bf16
  | 0 => extractStridedSlice S128x64 ![0, 0] Q slices_S128x256_o0_0_S128x64
  | 1 => extractStridedSlice S128x64 ![0, 64] Q slices_S128x256_o0_64_S128x64
  | 2 => extractStridedSlice S128x64 ![0, 128] Q slices_S128x256_o0_128_S128x64
  | 3 => extractStridedSlice S128x64 ![0, 192] Q slices_S128x256_o0_192_S128x64
/-- Head h's keys or values. -/
def kvPart (X : FVec F S4x64x128 .bf16) : Fin 4 → FVec F S64x128 .bf16
  | 0 => shapeCast S64x128 (extractStridedSlice S1x64x128 ![0, 0, 0] X slices_S4x64x128_o0_0_0_S1x64x128) shapeCasts_S1x64x128_S64x128
  | 1 => shapeCast S64x128 (extractStridedSlice S1x64x128 ![1, 0, 0] X slices_S4x64x128_o1_0_0_S1x64x128) shapeCasts_S1x64x128_S64x128
  | 2 => shapeCast S64x128 (extractStridedSlice S1x64x128 ![2, 0, 0] X slices_S4x64x128_o2_0_0_S1x64x128) shapeCasts_S1x64x128_S64x128
  | 3 => shapeCast S64x128 (extractStridedSlice S1x64x128 ![3, 0, 0] X slices_S4x64x128_o3_0_0_S1x64x128) shapeCasts_S1x64x128_S64x128

/-- The four heads side by side. -/
def kCat (H : Fin 4 → FVec F S128x64 .bf16) : FVec F S128x256 .bf16 :=
  concatenate S128x256 1 [⟨S128x64, H 0⟩, ⟨S128x64, H 1⟩, ⟨S128x64, H 2⟩, ⟨S128x64, H 3⟩] concatenates_S128x64_S128x64_S128x64_S128x64_S128x256_d1
/-- The same times the device's rows of the output weights. -/
def kOut (H : Fin 4 → FVec F S128x64 .bf16) (W : FVec F S256x512 .bf16) : FVec F S128x512 .f32 :=
  matmul dot_S128x256_S256x512_S128x512_1_0_0_1_n_n none (kCat H) W (constant S128x512 .f32 0x00000000#32)

variable (I : Ins F) (c : Dev nD)

def kHeads (b : Fin 2) (h : Fin 4) : FVec F S128x64 .bf16 :=
  kHead (qPart (k0_pay7 (wqAll I c) (xRow I c b)) h) (kvPart (k0_pay8 (kRow I c b)) h) (kvPart (k0_pay9 (vRow I c b)) h)

theorem own_out (b : Fin 2) : own I c b = shapeCast S1x128x512 (kOut (kHeads I c b) (k0_pay6 (woAll I c))) shapeCasts_S128x512_S1x128x512 := by
  fin_cases b <;> rfl
theorem ownS_out (b : Fin 2) : ownS I c b
    = shapeCast S1x128x512 (truncf .bf16 (kOut (kHeads I c b) (k0_pay6 (woAll I c))) bitsLt_bf16_f32) shapeCasts_S128x512_S1x128x512 := by
  fin_cases b <;> rfl
end

/-! ## Read at an entry -/

/-- The mask word of a pair of positions. -/
theorem msk_at (i j : Fin 128) : msk (ix2 i j) = Cert.Attention.keep i j := by
  have hf : ∀ i : Fin 128, (Scalar.select
        (IntOp.andi
          (IntOp.cmpi CmpIPredicate.ne
            (IntOp.subi (BitVec.setWidth 32 (IntOp.cmpi CmpIPredicate.sgt (BitVec.ofNat 32 ↑i) 0#32))
              (BitVec.setWidth 32 (IntOp.cmpi CmpIPredicate.slt (BitVec.ofNat 32 ↑i) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 ↑i) 64#32) 0#32))
        (IntOp.subi (IntOp.divsi ArithUnit.vector (BitVec.ofNat 32 ↑i) 64#32) 1#32)
        (IntOp.divsi ArithUnit.vector (BitVec.ofNat 32 ↑i) 64#32)) = Cert.Attention.blk i := by decide +kernel
  pointwise [msk, k0_pay4, k0_pay1, k0_pay2, k0_pay3, cols, sgn]
  rw [hf, hf]; rfl

theorem kScore_at (q : FVec Ideal S128x64 .bf16) (k : FVec Ideal S64x128 .bf16) (i j : Fin 128) :
    kScore q k (ix2 i j) = Cert.Attention.score (fun i d => q (ix2 i d)) (fun d j => k (ix2 d j)) i j := by
  pointwise [kScore]
  rw [msk_at]; rfl
theorem kHead_at (q : FVec Ideal S128x64 .bf16) (k v : FVec Ideal S64x128 .bf16) (i : Fin 128) (d : Fin 64) :
    kHead q k v (ix2 i d) = Cert.Attention.attend (fun i d => q (ix2 i d)) (fun d j => k (ix2 d j)) (fun d j => v (ix2 d j)) i d := by
  pointwise [kHead, kWeigh, kExp]
  simp only [kScore_at]; rfl

theorem qPart_at (Q : FVec Ideal S128x256 .bf16) (h : Fin 4) (i : Fin 128) (d : Fin 64) :
    qPart Q h (ix2 i d) = Q (ix2 i ⟨64 * h.val + d.val, by omega⟩) := by
  fin_cases h <;> pointwise [qPart]
theorem kvPart_at (X : FVec Ideal S4x64x128 .bf16) (h : Fin 4) (d : Fin 64) (j : Fin 128) : kvPart X h (ix2 d j) = X (ix3 h d j) := by
  fin_cases h <;> pointwise [kvPart]

/-- An entry of the joined heads is one head's. -/
theorem kCat_read (H : Fin 4 → FVec Ideal S128x64 .bf16) (i : Fin 128) (x : Fin 256) :
    kCat H (ix2 i x) = if h : x.val < 64 then H 0 (ix2 i ⟨x.val, h⟩) else if h : x.val - 64 < 64 then H 1 (ix2 i ⟨x.val - 64, h⟩)
      else if h : x.val - 64 - 64 < 64 then H 2 (ix2 i ⟨x.val - 64 - 64, h⟩) else H 3 (ix2 i ⟨x.val - 64 - 64 - 64, by omega⟩) := by
  pointwise [kCat]
theorem kCat_at (H : Fin 4 → FVec Ideal S128x64 .bf16) (h : Fin 4) (i : Fin 128) (d : Fin 64) :
    kCat H (ix2 i ⟨64 * h.val + d.val, by omega⟩) = H h (ix2 i d) := by
  have hd := d.isLt
  rw [kCat_read]
  fin_cases h
  · exact (dif_pos (by simp)).trans (congrArg (fun e => H 0 (ix2 i e)) (Fin.ext (by simp)))
  · exact (dif_neg (by simp)).trans ((dif_pos (by simp)).trans (congrArg (fun e => H 1 (ix2 i e)) (Fin.ext (by simp))))
  · refine (dif_neg (by simp; omega)).trans ((dif_neg (by simp; omega)).trans ((dif_pos (by simp; omega)).trans ?_))
    exact congrArg (fun e => H 2 (ix2 i e)) (Fin.ext (by simp; omega))
  · refine (dif_neg (by simp; omega)).trans ((dif_neg (by simp; omega)).trans ((dif_neg (by simp; omega)).trans ?_))
    exact congrArg (fun e => H 3 (ix2 i e)) (Fin.ext (by simp; omega))

theorem kOut_at (H : Fin 4 → FVec Ideal S128x64 .bf16) (W : FVec Ideal S256x512 .bf16) (i : Fin 128) (n : Fin 512) :
    kOut H W (ix2 i n) = ∑ h : Fin 4, ∑ d : Fin 64, H h (ix2 i d) * W (ix2 ⟨64 * h.val + d.val, by omega⟩ n) := by
  pointwise [kOut]
  rw [Cert.Attention.sum_own_cols]
  exact Finset.sum_congr rfl fun h _ => Finset.sum_congr rfl fun d _ => congrArg (· * _) (kCat_at H h i d)

/-! ## The inputs read at an entry -/

variable (I : Ins Ideal) (c : Dev nD)

theorem xRow_at (b : Fin 2) (i : Fin 128) (m : Fin 512) : xRow I c b (ix3 0 i m) = I.x c (ix3 b i m) := by
  refine congrArg (I.x c) (funext fun a => Fin.ext ((ValueKit.rect_emb_unit_val _ _ _ _ a).trans ?_))
  fin_cases b <;> fin_cases a <;> simp [rowOff]
theorem wqAll_at (m : Fin 512) (k : Fin 256) : wqAll I c (ix2 m k) = I.wq c (ix2 m k) := by
  refine congrArg (I.wq c) (funext fun a => Fin.ext ((ValueKit.rect_emb_unit_val _ _ _ _ a).trans ?_))
  fin_cases a <;> simp
theorem woAll_at (k : Fin 256) (n : Fin 512) : woAll I c (ix2 k n) = I.wo c (ix2 k n) := by
  refine congrArg (I.wo c) (funext fun a => Fin.ext ((ValueKit.rect_emb_unit_val _ _ _ _ a).trans ?_))
  fin_cases a <;> simp
/-- A device's slice of keys or values begins at its first head. -/
theorem headOff (c : Dev nD) : k0_off1 c = ![0, 4 * c.val, 0, 0] := by
  revert c; decide +kernel
theorem headRow_at (X : S2x32x64x128.Idx → Elt Ideal .f32) (b : Fin 2) (h : Fin 4) (d : Fin 64) (j : Fin 128) :
    part (kvR b) (part (headR c) X) (ix4 0 h d j) = X (ix4 b (Cert.Attention.mine c h) d j) := by
  refine congrArg X (funext fun a => Fin.ext ((ValueKit.rect_emb_unit_val _ _ _ _ a).trans ?_))
  have hk : (((kvR b).emb (ix4 0 h d j) a : Fin _) : Nat) = kvOff b a + (ix4 0 h d j a : Nat) :=
    ValueKit.rect_emb_unit_val (s := S2x4x64x128) _ _ (kvOff_inb b) _ a
  rw [hk, headOff]
  fin_cases b <;> fin_cases a <;> simp [kvOff, Cert.Attention.mine]

/-- The device's own queries, keys and values. -/
theorem q_at (b : Fin 2) (i : Fin 128) (k : Fin 256) :
    k0_pay7 (wqAll I c) (xRow I c b) (ix2 i k) = ∑ m : Fin 512, I.x c (ix3 b i m) * I.wq c (ix2 m k) := by
  pointwise [k0_pay7, k0_pay5]
  simp only [xRow_at, wqAll_at]
theorem k_at (b : Fin 2) (h : Fin 4) (d : Fin 64) (j : Fin 128) :
    k0_pay8 (kRow I c b) (ix3 h d j) = I.kt c (ix4 b (Cert.Attention.mine c h) d j) := by
  pointwise [k0_pay8]
  exact headRow_at c _ b h d j
theorem v_at (b : Fin 2) (h : Fin 4) (d : Fin 64) (j : Fin 128) :
    k0_pay9 (vRow I c b) (ix3 h d j) = I.vt c (ix4 b (Cert.Attention.mine c h) d j) := by
  pointwise [k0_pay9]
  exact headRow_at c _ b h d j
theorem wo_at (k : Fin 256) (n : Fin 512) : k0_pay6 (woAll I c) (ix2 k n) = I.wo c (ix2 k n) := by
  pointwise [k0_pay6]
  exact woAll_at I c k n

open Cert.Attention in
/-- What a device computes by itself is the share of its four heads, where its arguments are its parts of the whole arrays. -/
theorem out_share (x : FVec Ideal S2x128x512 .f32) (Wq : (⟨2, ![512, 2048]⟩ : Shape).Idx → EReal) (K V : (⟨4, ![2, 128, 32, 64]⟩ : Shape).Idx → EReal)
    (Wo : (⟨2, ![2048, 512]⟩ : Shape).Idx → EReal)
    (hx : I.x c = x) (hq : ∀ m h (d : Fin 64), I.wq c (ix2 m ⟨64 * (h : Fin 4).val + d.val, by omega⟩) = Wq (ix2 m (col (mine c h) d)))
    (hk : ∀ b h d j, I.kt c (ix4 b h d j) = K (ix4 b j h d)) (hv : ∀ b h d j, I.vt c (ix4 b h d j) = V (ix4 b j h d))
    (ho : ∀ h (d : Fin 64) n, I.wo c (ix2 ⟨64 * (h : Fin 4).val + d.val, by omega⟩ n) = Wo (ix2 (col (mine c h) d) n))
    (b : Fin 2) (i : Fin 128) (n : Fin 512) :
    kOut (kHeads I c b) (k0_pay6 (woAll I c)) (ix2 i n) = ∑ h : Fin 4, share x Wq K V Wo b i n (mine c h) := by
  rw [kOut_at]
  refine Finset.sum_congr rfl fun h _ => Finset.sum_congr rfl fun d _ => ?_
  rw [wo_at, ho]
  refine congrArg (· * _) ?_
  rw [kHeads, kHead_at]
  simp only [qPart_at, kvPart_at, q_at, k_at, v_at, hx, hq, hk, hv]
  rfl

end Cert.KernelIdeal.Butterfly

end
-- ==== Proof.Total.lean ====
/-
  The running sums, read at an entry over the extended reals: three exchanges add up what the eight devices computed by
  themselves, so that every device ends with the whole layer's output.
-/
module

public import proofs.«01_k».proof.Proof.Device

@[expose] public section

set_option maxRecDepth 16384

noncomputable section

namespace Cert.KernelIdeal.Butterfly

open Cert.KernelIdeal Cert.KernelIdeal.Gen
open Idealize.ShloMosaic

variable (I : Ins Ideal)

/-- What device c computes by itself on row b. -/
def alone (c : Dev nD) (b : Fin 2) (i : Fin 128) (n : Fin 512) : EReal := kOut (kHeads I c b) (k0_pay6 (woAll I c)) (ix2 i n)

theorem own_at (c : Dev nD) (b : Fin 2) (i : Fin 128) (n : Fin 512) : own I c b (ix3 0 i n) = alone I c b i n := by
  rw [own_out]; pointwise [alone]
theorem ownS_at (c : Dev nD) (b : Fin 2) (i : Fin 128) (n : Fin 512) : ownS I c b (ix3 0 i n) = alone I c b i n := by
  rw [ownS_out]; pointwise [alone]

/-- What lands is what was sent. -/
theorem land_at (X : Vec Ideal S1x128x512 .bf16) (i : Fin 128) (n : Fin 512) : land X (ix4 0 0 i n) = X (ix3 0 i n) := by
  have h : (Shape.reshapeEquiv squeezes_S1x1x128x512_S128x512.numel_eq).symm (ix4 0 0 i n) = ix2 i n := by
    rw [Equiv.symm_apply_eq]; pointwise
  unfold land carry
  rw [h]; pointwise

theorem add_at (a : Vec Ideal S1x128x512 .f32) (X : Vec Ideal S1x1x128x512 .bf16) (i : Fin 128) (n : Fin 512) :
    k0_pay33 a X (ix3 0 i n) = a (ix3 0 i n) + X (ix4 0 0 i n) := by
  pointwise [k0_pay33, k0_pay32]
theorem addS_at (a : Vec Ideal S1x128x512 .f32) (X : Vec Ideal S1x1x128x512 .bf16) (i : Fin 128) (n : Fin 512) :
    k0_pay34 a X (ix3 0 i n) = a (ix3 0 i n) + X (ix4 0 0 i n) := by
  pointwise [k0_pay34, k0_pay32]

/-- What is sent equals what is kept. -/
theorem snd_acc (r : ℕ) (c : Dev nD) (b : Fin 2) (i : Fin 128) (n : Fin 512) : snd I r c b (ix3 0 i n) = acc I r c b (ix3 0 i n) := by
  cases r with
  | zero => exact (ownS_at I c b i n).trans (own_at I c b i n).symm
  | succ r => rw [snd_succ, acc_succ, add_at, addS_at]

theorem acc_step (r : ℕ) (c : Dev nD) (b : Fin 2) (i : Fin 128) (n : Fin 512) :
    acc I (r + 1) c b (ix3 0 i n) = acc I r c b (ix3 0 i n) + acc I r (pr r c) b (ix3 0 i n) := by
  rw [acc_succ, add_at, inc, land_at, snd_acc]

/-- Three rounds reach every device once. -/
theorem reach (f : Dev nD → EReal) (c : Dev nD) :
    f c + f (pr 0 c) + (f (pr 1 c) + f (pr 0 (pr 1 c))) + (f (pr 2 c) + f (pr 0 (pr 2 c)) + (f (pr 1 (pr 2 c)) + f (pr 0 (pr 1 (pr 2 c))))) = ∑ d, f d := by
  have e : ∀ c : Dev nD, ({c, pr 0 c, pr 1 c, pr 0 (pr 1 c), pr 2 c, pr 0 (pr 2 c), pr 1 (pr 2 c), pr 0 (pr 1 (pr 2 c))} : Multiset (Dev nD)) = Finset.univ.val := by
    decide +kernel
  rw [← Finset.sum_map_val, ← e c]
  simp only [Multiset.insert_eq_cons, Multiset.map_cons, Multiset.sum_cons, Multiset.map_singleton, Multiset.sum_singleton]
  ac_rfl

theorem total (c : Dev nD) (b : Fin 2) (i : Fin 128) (n : Fin 512) : acc I 3 c b (ix3 0 i n) = ∑ d, alone I d b i n := by
  simp only [acc_step, ← own_at]
  exact reach (fun d => own I d b (ix3 0 i n)) c

end Cert.KernelIdeal.Butterfly

end
-- ==== Proof.Reference.lean ====
/-
  The reference's result, read at an entry over the extended reals: the layer of Proof/Attention.lean.
-/
module

public import proofs.«01_k».proof.Proof.Gen.ReferenceIdeal.Run
public import proofs.«01_k».proof.Proof.Attention
public import Idealize.ShloMosaic.Lib.Routing.OpsOrder

@[expose] public section

set_option maxRecDepth 16384

noncomputable section

namespace Cert.ReferenceIdeal.Layer

open Cert.ReferenceIdeal Cert.ReferenceIdeal.Gen Idealize.ShloMosaic Idealize.ShloMosaic.TcCoe

/-! ## The result in parts -/

section
variable {F : FTy → Type} [FloatOps F]

/-- Sixty-four at every position. -/
def width : IVec S128 32 := broadcastInDim S128 ![] bcast_S_S128 (id (constantI S_ 32 64#32))
/-- The block of each position. -/
def blocks : IVec S128 32 :=
  select (andi (cmpi .ne (signi (iotaInDim S128 32 0)) (broadcastInDim S128 ![] bcast_S_S128 (signi (id (constantI S_ 32 64#32)))))
      (cmpi .ne (Host.remsi (iotaInDim S128 32 0) width) (broadcastInDim S128 ![] bcast_S_S128 (constantI S_ 32 0#32))))
    (subi (Host.divsi (iotaInDim S128 32 0) width) (broadcastInDim S128 ![] bcast_S_S128 (constantI S_ 32 1#32)))
    (Host.divsi (iotaInDim S128 32 0) width)
def mask : IVec S128x128 1 :=
  cmpi .sle (broadcastInDim S128x128 ![0, 1] bcast_S1x128_S128x128_0_1 (broadcastInDim S1x128 ![1] bcast_S128_S1x128_1 blocks))
    (broadcastInDim S128x128 ![0, 1] bcast_S128x1_S128x128_0_1 (broadcastInDim S128x1 ![0] bcast_S128_S128x1_0 blocks))
/-- Whether a position may look anywhere. -/
def some : IVec S128 1 := Host.reduce IntOp.ori mask (constantI S_ 1 0#1) reducesTo_S128x128_S128_d1 h_S_
def someRow : IVec S1x1x128x1 1 := broadcastInDim S1x1x128x1 ![2] bcast_S128_S1x1x128x1_2 some

variable (X : FVec F S2x128x512 .f32) (Wq : FVec F S512x2048 .f32) (K V : FVec F S2x128x32x64 .f32) (Wo : FVec F S2048x512 .f32)

def queries : FVec F S2x128x32x64 .f32 :=
  shapeCast S2x128x32x64 (Host.dotGeneral dot_S2x128x512_S512x2048_S2x128x2048_2_0_01_1_n_n none X Wq) shapeCasts_S2x128x2048_S2x128x32x64
def scores (Q : FVec F S2x128x32x64 .f32) : FVec F S2x32x128x128 .f32 :=
  select (broadcastInDim S2x32x128x128 ![0, 1, 2, 3] bcast_S1x1x128x128_S2x32x128x128_0_1_2_3 (broadcastInDim S1x1x128x128 ![2, 3] bcast_S128x128_S1x1x128x128_2_3 mask))
    (mulf (Host.dotGeneral dot_S2x128x32x64_S2x128x32x64_S2x32x128x128_3_3_1_1_02_02 none Q K) (broadcastInDim S2x32x128x128 ![] bcast_S_S2x32x128x128 (constant S_ .f32 0x3E000000#32)))
    (broadcastInDim S2x32x128x128 ![] bcast_S_S2x32x128x128 (id (constant S_ .f32 0xCE6E6B28#32)))
def exps (S : FVec F S2x32x128x128 .f32) : FVec F S2x32x128x128 .f32 :=
  Host.exp (subf S (broadcastInDim S2x32x128x128 ![0, 1, 2, 3] bcast_S2x32x128x1_S2x32x128x128_0_1_2_3 (broadcastInDim S2x32x128x1 ![0, 1, 2] bcast_S2x32x128_S2x32x128x1_0_1_2
    (Host.reduce FloatOps.maximumf S (constant S_ .f32 0xFF800000#32) reducesTo_S2x32x128x128_S2x32x128_d3 h_S_))))
def sums (E : FVec F S2x32x128x128 .f32) : FVec F S2x32x128x1 .f32 :=
  select (broadcastInDim S2x32x128x1 ![0, 1, 2, 3] bcast_S1x1x128x1_S2x32x128x1_0_1_2_3 someRow)
    (broadcastInDim S2x32x128x1 ![0, 1, 2] bcast_S2x32x128_S2x32x128x1_0_1_2 (Host.reduceAdd E (constant S_ .f32 0x00000000#32) reducesTo_S2x32x128x128_S2x32x128_d3 h_S_))
    (broadcastInDim S2x32x128x1 ![] bcast_S_S2x32x128x1 (id (constant S_ .f32 0x3F800000#32)))
def weights (E : FVec F S2x32x128x128 .f32) : FVec F S2x32x128x128 .f32 :=
  select (broadcastInDim S2x32x128x128 ![0, 1, 2, 3] bcast_S1x1x128x1_S2x32x128x128_0_1_2_3 someRow)
    (Host.divf E (broadcastInDim S2x32x128x128 ![0, 1, 2, 3] bcast_S2x32x128x1_S2x32x128x128_0_1_2_3 (sums E)))
    (broadcastInDim S2x32x128x128 ![] bcast_S_S2x32x128x128 (id (constant S_ .f32 0x00000000#32)))
/-- Each position's attention outputs, head after head. -/
def context (W : FVec F S2x32x128x128 .f32) : FVec F S2x128x2048 .f32 :=
  shapeCast S2x128x2048 (transpose S2x128x32x64 [0, 3, 1, 2] (Host.dotGeneral dot_S2x128x32x64_S2x32x128x128_S2x32x64x128_1_3_3_2_02_01 none V W)
    transposes_S2x32x64x128_S2x128x32x64_0_3_1_2) shapeCasts_S2x128x32x64_S2x128x2048
def result : FVec F S2x128x512 .f32 :=
  Host.dotGeneral dot_S2x128x2048_S2048x512_S2x128x512_2_0_01_1_n_n none (context V (weights (exps (scores K (queries X Wq))))) Wo

theorem out_eq (m : (ℓ : Loc nD τ sig) → Buf (Elt F) ℓ) (c : Dev nD) : Value.res_out0 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_out0 Value.res_main_v33; rfl
end

/-! ## Read at an entry -/

theorem blocks_at (i : Fin 128) : blocks (ix1 i) = Cert.Attention.blk i := by
  pointwise [blocks, width]
  revert i; decide +kernel
theorem mask_at (i j : Fin 128) : mask (ix2 i j) = Cert.Attention.keep i j := by
  pointwise [mask]
  rw [blocks_at, blocks_at]; rfl
/-- Every position may look at itself. -/
theorem some_at (i : Fin 128) : some (ix1 i) = 1#1 := by
  pointwise [some]
  refine (Routing.fold_ori _ _).mpr ⟨i, Finset.mem_univ _, ?_⟩
  rw [mask_at]; revert i; decide +kernel
theorem someRow_at (i : Fin 128) : someRow (ix4 0 0 i 0) = 1#1 := by
  pointwise [someRow]
  exact some_at i

variable (X : FVec Ideal S2x128x512 .f32) (Wq : FVec Ideal S512x2048 .f32) (K V : FVec Ideal S2x128x32x64 .f32) (Wo : FVec Ideal S2048x512 .f32)

theorem queries_at (b : Fin 2) (i : Fin 128) (H : Fin 32) (d : Fin 64) : queries X Wq (ix4 b i H d) = Cert.Attention.query X Wq b H i d := by
  pointwise [queries]
  refine Finset.sum_congr rfl fun x _ => congrArg (fun k => X (ix3 b i x) * Wq (ix2 x k)) (Fin.ext ?_)
  simp only [Cert.Attention.col]; omega
theorem scores_at (Q : FVec Ideal S2x128x32x64 .f32) (b : Fin 2) (H : Fin 32) (i j : Fin 128) :
    scores K Q (ix4 b H i j) = Cert.Attention.score (fun i d => Q (ix4 b i H d)) (fun d j => K (ix4 b j H d)) i j := by
  pointwise [scores]
  rw [mask_at]; rfl
theorem weights_at (S : FVec Ideal S2x32x128x128 .f32) (b : Fin 2) (H : Fin 32) (i j : Fin 128) :
    weights (exps S) (ix4 b H i j) = Ideal.div (exps S (ix4 b H i j)) (∑ l : Fin 128, exps S (ix4 b H i l)) := by
  pointwise [weights, sums]
  rw [someRow_at]; rfl
theorem exps_at (S : FVec Ideal S2x32x128x128 .f32) (b : Fin 2) (H : Fin 32) (i j : Fin 128) :
    exps S (ix4 b H i j) = Ideal.exp (S (ix4 b H i j) - Finset.univ.fold max (Ideal.ofBits .f32 0xFF800000#32) fun l => S (ix4 b H i l)) := by
  pointwise [exps]
theorem context_at (W : FVec Ideal S2x32x128x128 .f32) (b : Fin 2) (i : Fin 128) (H : Fin 32) (d : Fin 64) :
    context V W (ix3 b i (Cert.Attention.col H d)) = ∑ j : Fin 128, W (ix4 b H i j) * V (ix4 b j H d) := by
  have h : (Cert.Attention.col H d).val / 64 = H.val := by simp only [Cert.Attention.col]; omega
  have e : (Cert.Attention.col H d).val % 64 = d.val := by simp only [Cert.Attention.col]; omega
  pointwise [context]
  simp only [h, e]
  exact Finset.sum_congr rfl fun j _ => mul_comm _ _
theorem result_at (b : Fin 2) (i : Fin 128) (n : Fin 512) : result X Wq K V Wo (ix3 b i n) = Cert.Attention.layer X Wq K V Wo b i n := by
  pointwise [result]
  rw [Cert.Attention.sum_cols]
  refine Finset.sum_congr rfl fun H _ => Finset.sum_congr rfl fun d _ => congrArg (· * _) ?_
  rw [context_at]
  simp only [weights_at, exps_at, scores_at, queries_at]
  rfl

end Cert.ReferenceIdeal.Layer

end
-- ==== Proof.Equation.lean ====
/-
  The value claim: every device of the kernel ends with the array the reference computes.
-/
module

public import proofs.«01_k».proof.Defs
public import proofs.«01_k».proof.Proof.Launch
public import proofs.«01_k».proof.Proof.Total
public import proofs.«01_k».proof.Proof.Reference

@[expose] public section

set_option maxRecDepth 16384

noncomputable section

namespace Cert.KernelIdeal.Butterfly

open Cert.KernelIdeal Cert.KernelIdeal.Gen
open Idealize.ShloMosaic Idealize.ShloMosaic.TcCoe

section
variable {F : FTy → Type} [FloatOps F] (m : (ℓ : Loc nD τ sig) → Buf (Elt F) ℓ)

theorem ins_kt (c : Dev nD) : (ins m).kt c = transpose S2x32x64x128 [0, 2, 3, 1] (m ((c : Thread nD τ).loc main_arg2)) transposes_S2x128x32x64_S2x32x64x128_0_2_3_1 := by
  show V₁ m c main_v1 = _
  unfold V₁ hostOps0
  after_results_simp
theorem ins_vt (c : Dev nD) : (ins m).vt c = transpose S2x32x64x128 [0, 2, 3, 1] (m ((c : Thread nD τ).loc main_arg3)) transposes_S2x128x32x64_S2x32x64x128_0_2_3_1 := by
  show V₁ m c main_v2 = _
  unfold V₁ hostOps0
  after_results_simp
end

variable (m : (ℓ : Loc nD τ sig) → Buf (Elt Ideal) ℓ)

theorem kt_at (c : Dev nD) (b : Fin 2) (h : Fin 32) (d : Fin 64) (j : Fin 128) :
    (ins m).kt c (ix4 b h d j) = m ((c : Thread nD τ).loc main_arg2) (ix4 b j h d) := by
  rw [ins_kt]; pointwise
theorem vt_at (c : Dev nD) (b : Fin 2) (h : Fin 32) (d : Fin 64) (j : Fin 128) :
    (ins m).vt c (ix4 b h d j) = m ((c : Thread nD τ).loc main_arg3) (ix4 b j h d) := by
  rw [ins_vt]; pointwise

/-- Device c's block of the query weights holds the columns of its own heads, and its block of the output weights the rows. -/
theorem wq_block (W : (⟨2, ![512, 2048]⟩ : Shape).Idx → EReal) (c : Fin 8) (k : Fin 512) (h : Fin 4) (d : Fin 64) :
    Layout.block ⟨2, ![512, 256]⟩ ⟨2, ![512, 2048]⟩ 1 8 c W (by decide) (ix2 k ⟨64 * h.val + d.val, by omega⟩) = W (ix2 k (Cert.Attention.col (Cert.Attention.mine c h) d)) := by
  refine congrArg W (funext fun a => Fin.ext ((Layout.Tiles.idx_val _ _ _ _).trans ?_))
  fin_cases a <;> simp [Cert.Attention.col, Cert.Attention.mine]
  omega
theorem wo_block (W : (⟨2, ![2048, 512]⟩ : Shape).Idx → EReal) (c : Fin 8) (h : Fin 4) (d : Fin 64) (n : Fin 512) :
    Layout.block ⟨2, ![256, 512]⟩ ⟨2, ![2048, 512]⟩ 0 8 c W (by decide) (ix2 ⟨64 * h.val + d.val, by omega⟩ n) = W (ix2 (Cert.Attention.col (Cert.Attention.mine c h) d) n) := by
  refine congrArg W (funext fun a => Fin.ext ((Layout.Tiles.idx_val _ _ _ _).trans ?_))
  fin_cases a <;> simp [Cert.Attention.col, Cert.Attention.mine]
  omega

/-- A device's result is the layer of the whole arrays its arguments are parts of. -/
theorem outAt_layer (x : S2x128x512.Idx → EReal) (Wq : (⟨2, ![512, 2048]⟩ : Shape).Idx → EReal) (K V : S2x128x32x64.Idx → EReal)
    (Wo : (⟨2, ![2048, 512]⟩ : Shape).Idx → EReal)
    (hx : ∀ c : Dev nD, m ((c : Thread nD τ).loc main_arg0) = x)
    (hq : ∀ c : Dev nD, m ((c : Thread nD τ).loc main_arg1) = Layout.block ⟨2, ![512, 256]⟩ ⟨2, ![512, 2048]⟩ 1 8 c Wq)
    (hk : ∀ c : Dev nD, m ((c : Thread nD τ).loc main_arg2) = K) (hv : ∀ c : Dev nD, m ((c : Thread nD τ).loc main_arg3) = V)
    (ho : ∀ c : Dev nD, m ((c : Thread nD τ).loc main_arg4) = Layout.block ⟨2, ![256, 512]⟩ ⟨2, ![2048, 512]⟩ 0 8 c Wo)
    (c : Dev nD) (b : Fin 2) (i : Fin 128) (n : Fin 512) : outAt (ins m) c (ix3 b i n) = Cert.Attention.layer x Wq K V Wo b i n := by
  have e : (ix3 b i n : S2x128x512.Idx) = (rowR b).emb (ix3 0 i n) := by
    refine funext fun a => Fin.ext (Eq.symm ((ValueKit.rect_emb_unit_val (s := S2x128x512) _ _ (rowOff_inb b) _ a).trans ?_))
    fin_cases b <;> fin_cases a <;> simp [rowOff]
  rw [e]
  refine (rows_emb _ b _).trans ((total (ins m) c b i n).trans ?_)
  unfold Cert.Attention.layer
  rw [Cert.Attention.sum_heads]
  refine Finset.sum_congr rfl fun d _ => out_share (ins m) d x Wq K V Wo (hx d) (fun k h e => ?_) (fun b h e j => ?_) (fun b h e j => ?_) (fun h e n => ?_) b i n
  · exact (congrFun (hq d) _).trans (wq_block Wq d k h e)
  · exact (kt_at m d b h e j).trans (congrFun (hk d) _)
  · exact (vt_at m d b h e j).trans (congrFun (hv d) _)
  · exact (congrFun (ho d) _).trans (wo_block Wo d h e n)

end Cert.KernelIdeal.Butterfly

namespace Cert.Proof

open Idealize.ShloMosaic Idealize.SL.Sem Cert.KernelIdeal.Butterfly

theorem algebraic : Cert.algebraic_KernelIdeal_ReferenceIdeal (hKernelIdeal := Cert.KernelIdeal.Gen.facts) (hReferenceIdeal := Cert.ReferenceIdeal.Gen.facts) := by
  intro m g m' g' _ h
  have hv : ∀ c : Dev Cert.KernelIdeal.nD, outAt (ins m) c = Cert.ReferenceIdeal.Value.res_out0 m' 0 := fun c => by
    rw [Cert.ReferenceIdeal.Layer.out_eq]
    refine funext fun j => ?_
    rw [← ix3_eta j]
    exact (outAt_layer m _ _ _ _ _ (fun c => (h c).1) (fun c => (h c).2.1) (fun c => (h c).2.2.1) (fun c => (h c).2.2.2.1) (fun c => (h c).2.2.2.2) c _ _ _).trans
      (Cert.ReferenceIdeal.Layer.result_at _ _ _ _ _ _ _ _).symm
  exact ⟨Cert.ReferenceIdeal.Value.res_out0 m' 0,
    (θ_run Cert.KernelIdeal.defs _ _).mono (fun _ r c => ⟨(r.1 c).2.trans (hv c), (r.1 c).1⟩) (run_main m g),
    (θ_run Cert.ReferenceIdeal.defs _ _).mono (fun _ r => r 0) (Cert.ReferenceIdeal.Value.run (F := Ideal) m' g')⟩

end Cert.Proof

end
-- ==== Proof.lean ====
/-
  The certificate's claim: the frames of the three programs (Proof/Frames.lean), that the two kernels differ in no
  operation, and that the kernel computes the reference's result (Proof/Equation.lean).
-/
module

public import proofs.«01_k».proof.Defs
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
